-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S512x3x256 : Shape := ⟨3, ![512, 3, 256]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S512x3x256x1 : Shape := ⟨4, ![512, 3, 256, 1]⟩
abbrev S512x3x1x256 : Shape := ⟨4, ![512, 3, 1, 256]⟩
abbrev S512x3x256x256 : Shape := ⟨4, ![512, 3, 256, 256]⟩
abbrev S_ : Shape := ⟨0, ![]⟩
abbrev S512x256x256 : Shape := ⟨3, ![512, 256, 256]⟩
abbrev S256 : Shape := ⟨1, ![256]⟩
abbrev S512x256x256x1 : Shape := ⟨4, ![512, 256, 256, 1]⟩
abbrev S512x256x1x256 : Shape := ⟨4, ![512, 256, 1, 256]⟩
abbrev S512x256x256x256 : Shape := ⟨4, ![512, 256, 256, 256]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩
abbrev S512x256 : Shape := ⟨2, ![512, 256]⟩

class Facts : Prop where
  bcast_S512x3x256_S512x3x256x1_0_1_2 : S512x3x256.BroadcastsInDim S512x3x256x1 (![0, 1, 2] : Fin 3 → Fin S512x3x256x1.rank)
  bcast_S512x3x256_S512x3x1x256_0_1_3 : S512x3x256.BroadcastsInDim S512x3x1x256 (![0, 1, 3] : Fin 3 → Fin S512x3x1x256.rank)
  bcast_S512x3x256x1_S512x3x256x256_0_1_2_3 : S512x3x256x1.BroadcastsInDim S512x3x256x256 (![0, 1, 2, 3] : Fin 4 → Fin S512x3x256x256.rank)
  bcast_S512x3x1x256_S512x3x256x256_0_1_2_3 : S512x3x1x256.BroadcastsInDim S512x3x256x256 (![0, 1, 2, 3] : Fin 4 → Fin S512x3x256x256.rank)
  reducesTo_S512x3x256x256_S512x256x256_d1 : S512x3x256x256.ReducesTo [1] S512x256x256
  h_S_ : 0 < S_.numel
  bcast_S512x256x256_S512x256x256x1_0_1_2 : S512x256x256.BroadcastsInDim S512x256x256x1 (![0, 1, 2] : Fin 3 → Fin S512x256x256x1.rank)
  bcast_S512x256x256_S512x256x1x256_0_1_3 : S512x256x256.BroadcastsInDim S512x256x1x256 (![0, 1, 3] : Fin 3 → Fin S512x256x1x256.rank)
  bcast_S512x256x256x1_S512x256x256x256_0_1_2_3 : S512x256x256x1.BroadcastsInDim S512x256x256x256 (![0, 1, 2, 3] : Fin 4 → Fin S512x256x256x256.rank)
  bcast_S512x256x1x256_S512x256x256x256_0_1_2_3 : S512x256x1x256.BroadcastsInDim S512x256x256x256 (![0, 1, 2, 3] : Fin 4 → Fin S512x256x256x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S256x256_S1x1x256x256_2_3 : S256x256.BroadcastsInDim S1x1x256x256 (![2, 3] : Fin 2 → Fin S1x1x256x256.rank)
  bcast_S1x1x256x256_S512x256x256x256_0_1_2_3 : S1x1x256x256.BroadcastsInDim S512x256x256x256 (![0, 1, 2, 3] : Fin 4 → Fin S512x256x256x256.rank)
  bcast_S_S512x3x256 : S_.BroadcastsInDim S512x3x256 (![] : Fin 0 → Fin S512x3x256.rank)
  bcast_S_S3x64 : S_.BroadcastsInDim S3x64 (![] : Fin 0 → Fin S3x64.rank)
  reducesTo_S512x256x256x256_S512x256_d2_3 : S512x256x256x256.ReducesTo [2, 3] S512x256

variable [Facts]

def fn_part1 {F : FTy → Type} [FloatOps F] (main_arg1 : FVec F S3x64 .f32) (main_v20 : IVec S512x256x256x256 1) (main_v21 : FVec F S512x3x256 .f32) (main_cst_0 : FVec F S_ .f32) : IVec S512x3x256 1 × IVec S3x64 1 × IVec S512x256 1 :=
  let main_v22 : FVec F S512x3x256 .f32 := broadcastInDim S512x3x256 ![] bcast_S_S512x3x256 main_cst_0
  let main_v23 : IVec S512x3x256 1 := cmpf .olt main_v21 main_v22
  let main_v24 : FVec F S3x64 .f32 := Host.absf main_arg1
  let main_cst_1 : FVec F S_ .f32 := constant S_ .f32 0x7F800000#32
  let main_v25 : FVec F S3x64 .f32 := broadcastInDim S3x64 ![] bcast_S_S3x64 main_cst_1
  let main_v26 : IVec S3x64 1 := cmpf .olt main_v24 main_v25
  let main_c : IVec S_ 1 := constantI S_ 1 1#1
  let main_v27 : IVec S512x256 1 := (fun x v => Host.reduce IntOp.andi x v reducesTo_S512x256x256x256_S512x256_d2_3 h_S_) main_v20 main_c
  (main_v23, main_v26, main_v27)

def fn {F : FTy → Type} [FloatOps F] (main_arg0 : FVec F S512x3x256 .f32) (main_arg1 : FVec F S3x64 .f32) (main_arg2 : FVec F S64 .f32) (main_arg3 : FVec F S64x128 .f32) (main_arg4 : FVec F S128 .f32) (main_arg5 : FVec F S128x1 .f32) (main_arg6 : FVec F S1 .f32) : IVec S512x3x256 1 × IVec S3x64 1 × IVec S512x256 1 :=
  let main_v0 : FVec F S512x3x256x1 .f32 := broadcastInDim S512x3x256x1 ![0, 1, 2] bcast_S512x3x256_S512x3x256x1_0_1_2 main_arg0
  let main_v1 : FVec F S512x3x1x256 .f32 := broadcastInDim S512x3x1x256 ![0, 1, 3] bcast_S512x3x256_S512x3x1x256_0_1_3 main_arg0
  let main_v2 : FVec F S512x3x256x256 .f32 := broadcastInDim S512x3x256x256 ![0, 1, 2, 3] bcast_S512x3x256x1_S512x3x256x256_0_1_2_3 main_v0
  let main_v3 : FVec F S512x3x256x256 .f32 := broadcastInDim S512x3x256x256 ![0, 1, 2, 3] bcast_S512x3x1x256_S512x3x256x256_0_1_2_3 main_v1
  let main_v4 : FVec F S512x3x256x256 .f32 := subf main_v2 main_v3
  let main_v5 : FVec F S512x3x256x256 .f32 := mulf main_v4 main_v4
  let main_cst : FVec F S_ .f32 := constant S_ .f32 0x00000000#32
  let main_v6 : FVec F S512x256x256 .f32 := (fun x v => Host.reduceAdd x v reducesTo_S512x3x256x256_S512x256x256_d1 h_S_) main_v5 main_cst
  let main_v7 : IVec S256 32 := iotaInDim S256 32 0
  let main_v8 : FVec F S512x256x256x1 .f32 := broadcastInDim S512x256x256x1 ![0, 1, 2] bcast_S512x256x256_S512x256x256x1_0_1_2 main_v6
  let main_v9 : FVec F S512x256x1x256 .f32 := broadcastInDim S512x256x1x256 ![0, 1, 3] bcast_S512x256x256_S512x256x1x256_0_1_3 main_v6
  let main_v10 : FVec F S512x256x256x256 .f32 := broadcastInDim S512x256x256x256 ![0, 1, 2, 3] bcast_S512x256x256x1_S512x256x256x256_0_1_2_3 main_v8
  let main_v11 : FVec F S512x256x256x256 .f32 := broadcastInDim S512x256x256x256 ![0, 1, 2, 3] bcast_S512x256x1x256_S512x256x256x256_0_1_2_3 main_v9
  let main_v12 : IVec S512x256x256x256 1 := cmpf .une main_v10 main_v11
  let main_v13 : IVec S256x1 32 := broadcastInDim S256x1 ![0] bcast_S256_S256x1_0 main_v7
  let main_v14 : IVec S1x256 32 := broadcastInDim S1x256 ![1] bcast_S256_S1x256_1 main_v7
  let main_v15 : IVec S256x256 32 := broadcastInDim S256x256 ![0, 1] bcast_S256x1_S256x256_0_1 main_v13
  let main_v16 : IVec S256x256 32 := broadcastInDim S256x256 ![0, 1] bcast_S1x256_S256x256_0_1 main_v14
  let main_v17 : IVec S256x256 1 := cmpi .eq main_v15 main_v16
  let main_v18 : IVec S1x1x256x256 1 := broadcastInDim S1x1x256x256 ![2, 3] bcast_S256x256_S1x1x256x256_2_3 main_v17
  let main_v19 : IVec S512x256x256x256 1 := broadcastInDim S512x256x256x256 ![0, 1, 2, 3] bcast_S1x1x256x256_S512x256x256x256_0_1_2_3 main_v18
  let main_v20 : IVec S512x256x256x256 1 := ori main_v12 main_v19
  let main_v21 : FVec F S512x3x256 .f32 := Host.absf main_arg0
  let main_cst_0 : FVec F S_ .f32 := constant S_ .f32 0x7F800000#32
  fn_part1 (F := F) main_arg1 main_v20 main_v21 main_cst_0
-- ==== Kernel.lean ====
abbrev S512x3x256 : Shape := ⟨3, ![512, 3, 256]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S3x512x256 : Shape := ⟨3, ![3, 512, 256]⟩
abbrev S3x131072 : Shape := ⟨2, ![3, 131072]⟩
abbrev S512x256x3 : Shape := ⟨3, ![512, 256, 3]⟩
abbrev S8192 : Shape := ⟨1, ![8192]⟩
abbrev S8192x1 : Shape := ⟨2, ![8192, 1]⟩
abbrev S_ : Shape := ⟨0, ![]⟩
abbrev S32 : Shape := ⟨1, ![32]⟩
abbrev S1x32 : Shape := ⟨2, ![1, 32]⟩
abbrev S8192x32 : Shape := ⟨2, ![8192, 32]⟩
abbrev S64x3 : Shape := ⟨2, ![64, 3]⟩
abbrev S64x1 : Shape := ⟨2, ![64, 1]⟩
abbrev S128x64 : Shape := ⟨2, ![128, 64]⟩
abbrev S1x1 : Shape := ⟨2, ![1, 1]⟩
abbrev S16x3x32 : Shape := ⟨3, ![16, 3, 32]⟩
abbrev S3x8192 : Shape := ⟨2, ![3, 8192]⟩
abbrev S32x256x3 : Shape := ⟨3, ![32, 256, 3]⟩
abbrev S1x3x32 : Shape := ⟨3, ![1, 3, 32]⟩
abbrev S256x8192 : Shape := ⟨2, ![256, 8192]⟩
abbrev S64x8192 : Shape := ⟨2, ![64, 8192]⟩
abbrev S1x8192 : Shape := ⟨2, ![1, 8192]⟩
abbrev S256x256 : Shape := ⟨2, ![256, 256]⟩
abbrev S1x256x3 : Shape := ⟨3, ![1, 256, 3]⟩
abbrev S256x3 : Shape := ⟨2, ![256, 3]⟩
abbrev S3x256 : Shape := ⟨2, ![3, 256]⟩
abbrev S256 : Shape := ⟨1, ![256]⟩
abbrev S256x1 : Shape := ⟨2, ![256, 1]⟩
abbrev S1x256 : Shape := ⟨2, ![1, 256]⟩
abbrev S64x256 : Shape := ⟨2, ![64, 256]⟩
abbrev S128x8192 : Shape := ⟨2, ![128, 8192]⟩
abbrev S27x8192 : Shape := ⟨2, ![27, 8192]⟩
abbrev S57x8192 : Shape := ⟨2, ![57, 8192]⟩
abbrev S57x32 : Shape := ⟨2, ![57, 32]⟩
abbrev S3x32 : Shape := ⟨2, ![3, 32]⟩

abbrev nBuf : Space → Nat
  | .hbm => 42
  | .vmem => 15
  | .smem => 0
  | _ => 0

abbrev bufTy : (tb : Table) → Fin (tcTables nBuf tb) → BufTy
  | .hbm, ⟨0, _⟩ => ⟨S512x3x256, .f32⟩
  | .hbm, ⟨1, _⟩ => ⟨S3x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S3x512x256, .f32⟩
  | .hbm, ⟨8, _⟩ => ⟨S3x131072, .f32⟩
  | .hbm, ⟨9, _⟩ => ⟨S512x256x3, .f32⟩
  | .hbm, ⟨10, _⟩ => ⟨S8192, .i32⟩
  | .hbm, ⟨11, _⟩ => ⟨S8192x1, .i32⟩
  | .hbm, ⟨12, _⟩ => ⟨S_, .i32⟩
  | .hbm, ⟨13, _⟩ => ⟨S_, .i32⟩
  | .hbm, ⟨14, _⟩ => ⟨S8192x1, .i32⟩
  | .hbm, ⟨15, _⟩ => ⟨S8192x1, .i32⟩
  | .hbm, ⟨16, _⟩ => ⟨S8192x1, .i32⟩
  | .hbm, ⟨17, _⟩ => ⟨S_, .i32⟩
  | .hbm, ⟨18, _⟩ => ⟨S8192x1, .i32⟩
  | .hbm, ⟨19, _⟩ => ⟨S8192x1, .i1⟩
  | .hbm, ⟨20, _⟩ => ⟨S8192x1, .i32⟩
  | .hbm, ⟨21, _⟩ => ⟨S8192x1, .i32⟩
  | .hbm, ⟨22, _⟩ => ⟨S_, .i32⟩
  | .hbm, ⟨23, _⟩ => ⟨S8192x1, .i32⟩
  | .hbm, ⟨24, _⟩ => ⟨S8192x1, .i1⟩
  | .hbm, ⟨25, _⟩ => ⟨S8192x1, .i1⟩
  | .hbm, ⟨26, _⟩ => ⟨S_, .i32⟩
  | .hbm, ⟨27, _⟩ => ⟨S8192x1, .i32⟩
  | .hbm, ⟨28, _⟩ => ⟨S8192x1, .i32⟩
  | .hbm, ⟨29, _⟩ => ⟨S8192x1, .i32⟩
  | .hbm, ⟨30, _⟩ => ⟨S32, .i32⟩
  | .hbm, ⟨31, _⟩ => ⟨S1x32, .i32⟩
  | .hbm, ⟨32, _⟩ => ⟨S8192x32, .i32⟩
  | .hbm, ⟨33, _⟩ => ⟨S8192x32, .i32⟩
  | .hbm, ⟨34, _⟩ => ⟨S8192x32, .i1⟩
  | .hbm, ⟨35, _⟩ => ⟨S8192x32, .f32⟩
  | .hbm, ⟨36, _⟩ => ⟨S64x3, .f32⟩
  | .hbm, ⟨37, _⟩ => ⟨S64x1, .f32⟩
  | .hbm, ⟨38, _⟩ => ⟨S128x64, .f32⟩
  | .hbm, ⟨39, _⟩ => ⟨S128x1, .f32⟩
  | .hbm, ⟨40, _⟩ => ⟨S1x1, .f32⟩
  | .hbm, ⟨41, _⟩ => ⟨S16x3x32, .f32⟩
  | .local _ .vmem, ⟨0, _⟩ => ⟨S3x8192, .f32⟩
  | .local _ .vmem, ⟨1, _⟩ => ⟨S3x8192, .f32⟩
  | .local _ .vmem, ⟨2, _⟩ => ⟨S32x256x3, .f32⟩
  | .local _ .vmem, ⟨3, _⟩ => ⟨S32x256x3, .f32⟩
  | .local _ .vmem, ⟨4, _⟩ => ⟨S8192x32, .f32⟩
  | .local _ .vmem, ⟨5, _⟩ => ⟨S64x3, .f32⟩
  | .local _ .vmem, ⟨6, _⟩ => ⟨S64x1, .f32⟩
  | .local _ .vmem, ⟨7, _⟩ => ⟨S128x64, .f32⟩
  | .local _ .vmem, ⟨8, _⟩ => ⟨S128x1, .f32⟩
  | .local _ .vmem, ⟨9, _⟩ => ⟨S128x1, .f32⟩
  | .local _ .vmem, ⟨10, _⟩ => ⟨S1x1, .f32⟩
  | .local _ .vmem, ⟨11, _⟩ => ⟨S1x3x32, .f32⟩
  | .local _ .vmem, ⟨12, _⟩ => ⟨S1x3x32, .f32⟩
  | .local _ .vmem, ⟨13, _⟩ => ⟨S256x8192, .f32⟩
  | .local _ .vmem, ⟨14, _⟩ => ⟨S64x8192, .f32⟩
  | _, _ => ⟨S512x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c19_i32 : BitVec 32 := 19#32
  let v625 : BitVec 32 := Scalar.addi c0_i32 c19_i32
  let c1_i32 : BitVec 32 := 1#32
  ⟨c0_i32, v625, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x3x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S512x3x256 : Shape := ⟨3, ![512, 3, 256]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S512x256x3 : Shape := ⟨3, ![512, 256, 3]⟩
abbrev S512x256x256 : Shape := ⟨3, ![512, 256, 256]⟩
abbrev S_ : Shape := ⟨0, ![]⟩
abbrev S512x256 : Shape := ⟨2, ![512, 256]⟩
abbrev S512x1x256 : Shape := ⟨3, ![512, 1, 256]⟩
abbrev S512x256x1 : Shape := ⟨3, ![512, 256, 1]⟩
abbrev S512x256x20 : Shape := ⟨3, ![512, 256, 20]⟩
abbrev S512x256x20x1 : Shape := ⟨4, ![512, 256, 20, 1]⟩
abbrev S512x256x20x3 : Shape := ⟨4, ![512, 256, 20, 3]⟩
abbrev S512x256x1x3 : Shape := ⟨4, ![512, 256, 1, 3]⟩
abbrev S512x256x20x64 : Shape := ⟨4, ![512, 256, 20, 64]⟩
abbrev S1x1x1x64 : Shape := ⟨4, ![1, 1, 1, 64]⟩
abbrev S512x256x64 : Shape := ⟨3, ![512, 256, 64]⟩
abbrev S512x256x128 : Shape := ⟨3, ![512, 256, 128]⟩
abbrev S1x1x128 : Shape := ⟨3, ![1, 1, 128]⟩
abbrev S1x1x1 : Shape := ⟨3, ![1, 1, 1]⟩
abbrev S512x1 : Shape := ⟨2, ![512, 1]⟩
abbrev S512x1x1 : Shape := ⟨3, ![512, 1, 1]⟩
abbrev S512x256x6 : Shape := ⟨3, ![512, 256, 6]⟩
abbrev S512x6 : Shape := ⟨2, ![512, 6]⟩
abbrev S512x6x1 : Shape := ⟨3, ![512, 6, 1]⟩
abbrev S6x6 : Shape := ⟨2, ![6, 6]⟩
abbrev S1x6x6 : Shape := ⟨3, ![1, 6, 6]⟩
abbrev S512x6x6 : Shape := ⟨3, ![512, 6, 6]⟩
abbrev S512x6x256 : Shape := ⟨3, ![512, 6, 256]⟩
abbrev S6 : Shape := ⟨1, ![6]⟩
abbrev S1x6x1 : Shape := ⟨3, ![1, 6, 1]⟩
abbrev S512x1x6 : Shape := ⟨3, ![512, 1, 6]⟩
abbrev S512x2x1 : Shape := ⟨3, ![512, 2, 1]⟩
abbrev S512x2 : Shape := ⟨2, ![512, 2]⟩
abbrev S512x3 : Shape := ⟨2, ![512, 3]⟩
abbrev S512 : Shape := ⟨1, ![512]⟩
abbrev S16x32x3 : Shape := ⟨3, ![16, 32, 3]⟩
abbrev S16x3x32 : Shape := ⟨3, ![16, 3, 32]⟩

abbrev nBuf : Space → Nat
  | .hbm => 344
  | .vmem => 0
  | .smem => 0
  | _ => 0

abbrev hbmTy0_0 (i : Nat) : BufTy := match i % 128 with
  | 0 => ⟨S512x3x256, .f32⟩
  | 1 => ⟨S3x64, .f32⟩
  | 2 => ⟨S64, .f32⟩
  | 3 => ⟨S64x128, .f32⟩
  | 4 => ⟨S128, .f32⟩
  | 5 => ⟨S128x1, .f32⟩
  | 6 => ⟨S1, .f32⟩
  | 7 => ⟨S512x256x3, .f32⟩
  | 8 => ⟨S512x256x256, .f32⟩
  | 9 => ⟨S_, .f32⟩
  | 10 => ⟨S512x256x256, .f32⟩
  | 11 => ⟨S512x256x256, .f32⟩
  | 12 => ⟨S512x3x256, .f32⟩
  | 13 => ⟨S_, .f32⟩
  | 14 => ⟨S512x256, .f32⟩
  | 15 => ⟨S512x1x256, .f32⟩
  | 16 => ⟨S512x1x256, .f32⟩
  | 17 => ⟨S512x256x256, .f32⟩
  | 18 => ⟨S512x256x256, .f32⟩
  | 19 => ⟨S512x256x1, .f32⟩
  | 20 => ⟨S512x256x256, .f32⟩
  | 21 => ⟨S512x256x256, .f32⟩
  | 22 => ⟨S512x256x20, .f32⟩
  | 23 => ⟨S512x256x20, .i32⟩
  | 24 => ⟨S512x256x3, .f32⟩
  | 25 => ⟨S_, .i32⟩
  | 26 => ⟨S512x256x20, .i32⟩
  | 27 => ⟨S512x256x20, .i1⟩
  | 28 => ⟨S_, .i32⟩
  | 29 => ⟨S512x256x20, .i32⟩
  | 30 => ⟨S512x256x20, .i32⟩
  | 31 => ⟨S512x256x20, .i32⟩
  | 32 => ⟨S512x256x20x1, .i32⟩
  | 33 => ⟨S512x256x20x3, .f32⟩
  | 34 => ⟨S512x256x1x3, .f32⟩
  | 35 => ⟨S512x256x20x3, .f32⟩
  | 36 => ⟨S512x256x20x3, .f32⟩
  | 37 => ⟨S512x256x20x64, .f32⟩
  | 38 => ⟨S1x1x1x64, .f32⟩
  | 39 => ⟨S512x256x20x64, .f32⟩
  | 40 => ⟨S512x256x20x64, .f32⟩
  | 41 => ⟨S_, .f32⟩
  | 42 => ⟨S512x256x20x64, .f32⟩
  | 43 => ⟨S512x256x20x64, .f32⟩
  | 44 => ⟨S_, .f32⟩
  | 45 => ⟨S512x256x64, .f32⟩
  | 46 => ⟨S512x256x128, .f32⟩
  | 47 => ⟨S1x1x128, .f32⟩
  | 48 => ⟨S512x256x128, .f32⟩
  | 49 => ⟨S512x256x128, .f32⟩
  | 50 => ⟨S_, .f32⟩
  | 51 => ⟨S512x256x128, .f32⟩
  | 52 => ⟨S512x256x128, .f32⟩
  | 53 => ⟨S512x256x1, .f32⟩
  | 54 => ⟨S1x1x1, .f32⟩
  | 55 => ⟨S512x256x1, .f32⟩
  | 56 => ⟨S512x256x1, .f32⟩
  | 57 => ⟨S512x256, .f32⟩
  | 58 => ⟨S512x256, .f32⟩
  | 59 => ⟨S512x256, .f32⟩
  | 60 => ⟨S_, .f32⟩
  | 61 => ⟨S512x256, .f32⟩
  | 62 => ⟨S512x256, .f32⟩
  | 63 => ⟨S_, .f32⟩
  | 64 => ⟨S512x256, .f32⟩
  | 65 => ⟨S512x256, .f32⟩
  | 66 => ⟨S512x1x256, .f32⟩
  | 67 => ⟨S512x256, .f32⟩
  | 68 => ⟨S512x256x1, .f32⟩
  | 69 => ⟨S512x1x256, .f32⟩
  | 70 => ⟨S512x256, .f32⟩
  | 71 => ⟨S512x256x1, .f32⟩
  | 72 => ⟨S512x1x256, .f32⟩
  | 73 => ⟨S512x256, .f32⟩
  | 74 => ⟨S512x256x1, .f32⟩
  | 75 => ⟨S512x256x1, .f32⟩
  | 76 => ⟨S_, .f32⟩
  | 77 => ⟨S512x256x1, .f32⟩
  | 78 => ⟨S512x256x1, .i1⟩
  | 79 => ⟨S512x256x1, .i32⟩
  | 80 => ⟨S_, .i32⟩
  | 81 => ⟨S512x1, .i32⟩
  | 82 => ⟨S_, .i32⟩
  | 83 => ⟨S512x1, .i32⟩
  | 84 => ⟨S512x1, .i1⟩
  | 85 => ⟨S_, .f32⟩
  | 86 => ⟨S512x256, .f32⟩
  | 87 => ⟨S512x256, .i1⟩
  | 88 => ⟨S512x256, .f32⟩
  | 89 => ⟨S512x256x1, .f32⟩
  | 90 => ⟨S512x256x1, .f32⟩
  | 91 => ⟨S_, .f32⟩
  | 92 => ⟨S512x1, .f32⟩
  | 93 => ⟨S_, .f32⟩
  | 94 => ⟨S512x1, .f32⟩
  | 95 => ⟨S512x1, .f32⟩
  | 96 => ⟨S512x256x1, .f32⟩
  | 97 => ⟨S_, .f32⟩
  | 98 => ⟨S512x1, .f32⟩
  | 99 => ⟨S_, .f32⟩
  | 100 => ⟨S512x1, .f32⟩
  | 101 => ⟨S512x1, .f32⟩
  | 102 => ⟨S512x1, .f32⟩
  | 103 => ⟨S_, .f32⟩
  | 104 => ⟨S512x1, .f32⟩
  | 105 => ⟨S512x1, .f32⟩
  | 106 => ⟨S512x1, .f32⟩
  | 107 => ⟨S_, .f32⟩
  | 108 => ⟨S512x1, .f32⟩
  | 109 => ⟨S512x1, .i1⟩
  | 110 => ⟨S_, .f32⟩
  | 111 => ⟨S_, .f32⟩
  | 112 => ⟨S512x1, .f32⟩
  | 113 => ⟨S512x1, .f32⟩
  | 114 => ⟨S512x1x1, .f32⟩
  | 115 => ⟨S512x256x1, .f32⟩
  | 116 => ⟨S512x256x1, .f32⟩
  | 117 => ⟨S512x1x1, .f32⟩
  | 118 => ⟨S512x256x1, .f32⟩
  | 119 => ⟨S512x256x1, .f32⟩
  | 120 => ⟨S512x256x1, .f32⟩
  | 121 => ⟨S512x256x1, .f32⟩
  | 122 => ⟨S512x256x1, .f32⟩
  | 123 => ⟨S_, .f32⟩
  | 124 => ⟨S512x256x1, .f32⟩
  | 125 => ⟨S512x256x6, .f32⟩
  | 126 => ⟨S512x1, .f32⟩
  | 127 => ⟨S_, .f32⟩
  | _ => ⟨S512x3x256, .f32⟩

abbrev hbmTy0_1 (i : Nat) : BufTy := match i % 128 with
  | 0 => ⟨S512x1, .f32⟩
  | 1 => ⟨S512x6, .f32⟩
  | 2 => ⟨S_, .f32⟩
  | 3 => ⟨S512x6, .f32⟩
  | 4 => ⟨S512x6, .f32⟩
  | 5 => ⟨S512x6x1, .f32⟩
  | 6 => ⟨S6x6, .i32⟩
  | 7 => ⟨S6x6, .i32⟩
  | 8 => ⟨S_, .i32⟩
  | 9 => ⟨S6x6, .i32⟩
  | 10 => ⟨S6x6, .i32⟩
  | 11 => ⟨S6x6, .i1⟩
  | 12 => ⟨S6x6, .f32⟩
  | 13 => ⟨S1x6x6, .f32⟩
  | 14 => ⟨S512x6x6, .f32⟩
  | 15 => ⟨S512x6x6, .f32⟩
  | 16 => ⟨S512x6x6, .f32⟩
  | 17 => ⟨S512x6x256, .f32⟩
  | 18 => ⟨S512x256x6, .f32⟩
  | 19 => ⟨S512x256x6, .f32⟩
  | 20 => ⟨S512x6x6, .f32⟩
  | 21 => ⟨S6x6, .i32⟩
  | 22 => ⟨S6x6, .i32⟩
  | 23 => ⟨S_, .i32⟩
  | 24 => ⟨S6x6, .i32⟩
  | 25 => ⟨S6x6, .i32⟩
  | 26 => ⟨S6x6, .i1⟩
  | 27 => ⟨S6x6, .f32⟩
  | 28 => ⟨S_, .f32⟩
  | 29 => ⟨S6x6, .f32⟩
  | 30 => ⟨S6x6, .f32⟩
  | 31 => ⟨S1x6x6, .f32⟩
  | 32 => ⟨S512x6x6, .f32⟩
  | 33 => ⟨S512x6x6, .f32⟩
  | 34 => ⟨S512x256x1, .f32⟩
  | 35 => ⟨S512x6x1, .f32⟩
  | 36 => ⟨S6, .i32⟩
  | 37 => ⟨S1x6x1, .i32⟩
  | 38 => ⟨S512x1x6, .f32⟩
  | 39 => ⟨S512x1x1, .f32⟩
  | 40 => ⟨S512x1x6, .f32⟩
  | 41 => ⟨S512x1x6, .f32⟩
  | 42 => ⟨S512x1x1, .f32⟩
  | 43 => ⟨S512x1x1, .f32⟩
  | 44 => ⟨S512x1x1, .f32⟩
  | 45 => ⟨S512x6x1, .f32⟩
  | 46 => ⟨S_, .i32⟩
  | 47 => ⟨S1x6x1, .i32⟩
  | 48 => ⟨S1x6x1, .i1⟩
  | 49 => ⟨S512x6x6, .f32⟩
  | 50 => ⟨S512x6x6, .f32⟩
  | 51 => ⟨S512x6x6, .f32⟩
  | 52 => ⟨S512x6x6, .f32⟩
  | 53 => ⟨S512x6x6, .i1⟩
  | 54 => ⟨S512x6x6, .f32⟩
  | 55 => ⟨S512x6x6, .f32⟩
  | 56 => ⟨S_, .i32⟩
  | 57 => ⟨S1x6x1, .i32⟩
  | 58 => ⟨S1x6x1, .i1⟩
  | 59 => ⟨S512x6x1, .f32⟩
  | 60 => ⟨S512x6x1, .f32⟩
  | 61 => ⟨S512x6x1, .f32⟩
  | 62 => ⟨S512x6x1, .i1⟩
  | 63 => ⟨S512x6x1, .f32⟩
  | 64 => ⟨S512x6x1, .f32⟩
  | 65 => ⟨S512x1x6, .f32⟩
  | 66 => ⟨S512x1x1, .f32⟩
  | 67 => ⟨S512x1x6, .f32⟩
  | 68 => ⟨S512x1x6, .f32⟩
  | 69 => ⟨S512x1x1, .f32⟩
  | 70 => ⟨S512x1x1, .f32⟩
  | 71 => ⟨S512x1x1, .f32⟩
  | 72 => ⟨S512x6x1, .f32⟩
  | 73 => ⟨S_, .i32⟩
  | 74 => ⟨S1x6x1, .i32⟩
  | 75 => ⟨S1x6x1, .i1⟩
  | 76 => ⟨S512x6x6, .f32⟩
  | 77 => ⟨S512x6x6, .f32⟩
  | 78 => ⟨S512x6x6, .f32⟩
  | 79 => ⟨S512x6x6, .f32⟩
  | 80 => ⟨S512x6x6, .i1⟩
  | 81 => ⟨S512x6x6, .f32⟩
  | 82 => ⟨S512x6x6, .f32⟩
  | 83 => ⟨S_, .i32⟩
  | 84 => ⟨S1x6x1, .i32⟩
  | 85 => ⟨S1x6x1, .i1⟩
  | 86 => ⟨S512x6x1, .f32⟩
  | 87 => ⟨S512x6x1, .f32⟩
  | 88 => ⟨S512x6x1, .f32⟩
  | 89 => ⟨S512x6x1, .i1⟩
  | 90 => ⟨S512x6x1, .f32⟩
  | 91 => ⟨S512x6x1, .f32⟩
  | 92 => ⟨S512x1x6, .f32⟩
  | 93 => ⟨S512x1x1, .f32⟩
  | 94 => ⟨S512x1x6, .f32⟩
  | 95 => ⟨S512x1x6, .f32⟩
  | 96 => ⟨S512x1x1, .f32⟩
  | 97 => ⟨S512x1x1, .f32⟩
  | 98 => ⟨S512x1x1, .f32⟩
  | 99 => ⟨S512x6x1, .f32⟩
  | 100 => ⟨S_, .i32⟩
  | 101 => ⟨S1x6x1, .i32⟩
  | 102 => ⟨S1x6x1, .i1⟩
  | 103 => ⟨S512x6x6, .f32⟩
  | 104 => ⟨S512x6x6, .f32⟩
  | 105 => ⟨S512x6x6, .f32⟩
  | 106 => ⟨S512x6x6, .f32⟩
  | 107 => ⟨S512x6x6, .i1⟩
  | 108 => ⟨S512x6x6, .f32⟩
  | 109 => ⟨S512x6x6, .f32⟩
  | 110 => ⟨S_, .i32⟩
  | 111 => ⟨S1x6x1, .i32⟩
  | 112 => ⟨S1x6x1, .i1⟩
  | 113 => ⟨S512x6x1, .f32⟩
  | 114 => ⟨S512x6x1, .f32⟩
  | 115 => ⟨S512x6x1, .f32⟩
  | 116 => ⟨S512x6x1, .i1⟩
  | 117 => ⟨S512x6x1, .f32⟩
  | 118 => ⟨S512x6x1, .f32⟩
  | 119 => ⟨S512x1x6, .f32⟩
  | 120 => ⟨S512x1x1, .f32⟩
  | 121 => ⟨S512x1x6, .f32⟩
  | 122 => ⟨S512x1x6, .f32⟩
  | 123 => ⟨S512x1x1, .f32⟩
  | 124 => ⟨S512x1x1, .f32⟩
  | 125 => ⟨S512x1x1, .f32⟩
  | 126 => ⟨S512x6x1, .f32⟩
  | 127 => ⟨S_, .i32⟩
  | _ => ⟨S512x3x256, .f32⟩

abbrev hbmTy0_2 (i : Nat) : BufTy := match i % 128 with
  | 0 => ⟨S1x6x1, .i32⟩
  | 1 => ⟨S1x6x1, .i1⟩
  | 2 => ⟨S512x6x6, .f32⟩
  | 3 => ⟨S512x6x6, .f32⟩
  | 4 => ⟨S512x6x6, .f32⟩
  | 5 => ⟨S512x6x6, .f32⟩
  | 6 => ⟨S512x6x6, .i1⟩
  | 7 => ⟨S512x6x6, .f32⟩
  | 8 => ⟨S512x6x6, .f32⟩
  | 9 => ⟨S_, .i32⟩
  | 10 => ⟨S1x6x1, .i32⟩
  | 11 => ⟨S1x6x1, .i1⟩
  | 12 => ⟨S512x6x1, .f32⟩
  | 13 => ⟨S512x6x1, .f32⟩
  | 14 => ⟨S512x6x1, .f32⟩
  | 15 => ⟨S512x6x1, .i1⟩
  | 16 => ⟨S512x6x1, .f32⟩
  | 17 => ⟨S512x6x1, .f32⟩
  | 18 => ⟨S512x1x6, .f32⟩
  | 19 => ⟨S512x1x1, .f32⟩
  | 20 => ⟨S512x1x6, .f32⟩
  | 21 => ⟨S512x1x6, .f32⟩
  | 22 => ⟨S512x1x1, .f32⟩
  | 23 => ⟨S512x1x1, .f32⟩
  | 24 => ⟨S512x1x1, .f32⟩
  | 25 => ⟨S512x6x1, .f32⟩
  | 26 => ⟨S_, .i32⟩
  | 27 => ⟨S1x6x1, .i32⟩
  | 28 => ⟨S1x6x1, .i1⟩
  | 29 => ⟨S512x6x6, .f32⟩
  | 30 => ⟨S512x6x6, .f32⟩
  | 31 => ⟨S512x6x6, .f32⟩
  | 32 => ⟨S512x6x6, .f32⟩
  | 33 => ⟨S512x6x6, .i1⟩
  | 34 => ⟨S512x6x6, .f32⟩
  | 35 => ⟨S512x6x6, .f32⟩
  | 36 => ⟨S_, .i32⟩
  | 37 => ⟨S1x6x1, .i32⟩
  | 38 => ⟨S1x6x1, .i1⟩
  | 39 => ⟨S512x6x1, .f32⟩
  | 40 => ⟨S512x6x1, .f32⟩
  | 41 => ⟨S512x6x1, .f32⟩
  | 42 => ⟨S512x6x1, .i1⟩
  | 43 => ⟨S512x6x1, .f32⟩
  | 44 => ⟨S512x6x1, .f32⟩
  | 45 => ⟨S512x1x6, .f32⟩
  | 46 => ⟨S512x1x1, .f32⟩
  | 47 => ⟨S512x1x6, .f32⟩
  | 48 => ⟨S512x1x6, .f32⟩
  | 49 => ⟨S512x1x1, .f32⟩
  | 50 => ⟨S512x1x1, .f32⟩
  | 51 => ⟨S512x1x1, .f32⟩
  | 52 => ⟨S512x6x1, .f32⟩
  | 53 => ⟨S_, .i32⟩
  | 54 => ⟨S1x6x1, .i32⟩
  | 55 => ⟨S1x6x1, .i1⟩
  | 56 => ⟨S512x6x6, .f32⟩
  | 57 => ⟨S512x6x6, .f32⟩
  | 58 => ⟨S512x6x6, .f32⟩
  | 59 => ⟨S512x6x6, .f32⟩
  | 60 => ⟨S512x6x6, .i1⟩
  | 61 => ⟨S512x6x6, .f32⟩
  | 62 => ⟨S512x6x6, .f32⟩
  | 63 => ⟨S_, .i32⟩
  | 64 => ⟨S1x6x1, .i32⟩
  | 65 => ⟨S1x6x1, .i1⟩
  | 66 => ⟨S512x6x1, .f32⟩
  | 67 => ⟨S512x6x1, .f32⟩
  | 68 => ⟨S512x6x1, .f32⟩
  | 69 => ⟨S512x6x1, .i1⟩
  | 70 => ⟨S512x6x1, .f32⟩
  | 71 => ⟨S512x6x1, .f32⟩
  | 72 => ⟨S512x6x1, .f32⟩
  | 73 => ⟨S512x2x1, .f32⟩
  | 74 => ⟨S512x2, .f32⟩
  | 75 => ⟨S512x2, .f32⟩
  | 76 => ⟨S_, .f32⟩
  | 77 => ⟨S512x1, .f32⟩
  | 78 => ⟨S512x3, .f32⟩
  | 79 => ⟨S512x3, .f32⟩
  | 80 => ⟨S_, .f32⟩
  | 81 => ⟨S512, .f32⟩
  | 82 => ⟨S512x1, .f32⟩
  | 83 => ⟨S512x1, .f32⟩
  | 84 => ⟨S512x3, .f32⟩
  | 85 => ⟨S512x3, .f32⟩
  | 86 => ⟨S16x32x3, .f32⟩
  | 87 => ⟨S16x3x32, .f32⟩
  | _ => ⟨S512x3x256, .f32⟩

abbrev hbmTy (i : Nat) : BufTy := match i / 128 with
  | 0 => hbmTy0_0 i
  | 1 => hbmTy0_1 i
  | 2 => hbmTy0_2 i
  | _ => ⟨S512x3x256, .f32⟩

abbrev bufTy : (tb : Table) → Fin (tcTables nBuf tb) → BufTy
  | .hbm, ⟨i, _⟩ => hbmTy i
  | _, _ => ⟨S512x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_values : Ref sig .tc := ⟨.hbm, 22, rfl⟩
abbrev main_indices : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_cst : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_6 : Ref sig .tc := ⟨.hbm, 80, rfl⟩
abbrev main_v59 : Ref sig .tc := ⟨.hbm, 81, rfl⟩
abbrev main_c_7 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_call2_v0 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_call3_v0 : Ref sig .tc := ⟨.hbm, 111, rfl⟩
abbrev main_call3_v1 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_16 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_17 : Ref sig .tc := ⟨.hbm, 127, rfl⟩
abbrev main_v92 : Ref sig .tc := ⟨.hbm, 128, rfl⟩
abbrev main_v93 : Ref sig .tc := ⟨.hbm, 129, rfl⟩
abbrev main_cst_18 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_20 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_21 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_c_22 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_call4_v0 : Ref sig .tc := ⟨.hbm, 181, rfl⟩
abbrev main_call4_v1 : Ref sig .tc := ⟨.hbm, 182, rfl⟩
abbrev main_v140 : Ref sig .tc := ⟨.hbm, 183, rfl⟩
abbrev main_c_23 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_call5_v0 : Ref sig .tc := ⟨.hbm, 190, rfl⟩
abbrev main_call5_v1 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_c_24 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_call6_v0 : Ref sig .tc := ⟨.hbm, 208, rfl⟩
abbrev main_call6_v1 : Ref sig .tc := ⟨.hbm, 209, rfl⟩
abbrev main_v161 : Ref sig .tc := ⟨.hbm, 210, rfl⟩
abbrev main_c_25 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_call7_v0 : Ref sig .tc := ⟨.hbm, 217, rfl⟩
abbrev main_call7_v1 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_c_26 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_call8_v0 : Ref sig .tc := ⟨.hbm, 235, rfl⟩
abbrev main_call8_v1 : Ref sig .tc := ⟨.hbm, 236, rfl⟩
abbrev main_v182 : Ref sig .tc := ⟨.hbm, 237, rfl⟩
abbrev main_c_27 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_call9_v0 : Ref sig .tc := ⟨.hbm, 244, rfl⟩
abbrev main_call9_v1 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_c_28 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_call10_v0 : Ref sig .tc := ⟨.hbm, 262, rfl⟩
abbrev main_call10_v1 : Ref sig .tc := ⟨.hbm, 263, rfl⟩
abbrev main_v203 : Ref sig .tc := ⟨.hbm, 264, rfl⟩
abbrev main_c_29 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_call11_v0 : Ref sig .tc := ⟨.hbm, 271, rfl⟩
abbrev main_call11_v1 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_c_30 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_call12_v0 : Ref sig .tc := ⟨.hbm, 289, rfl⟩
abbrev main_call12_v1 : Ref sig .tc := ⟨.hbm, 290, rfl⟩
abbrev main_v224 : Ref sig .tc := ⟨.hbm, 291, rfl⟩
abbrev main_c_31 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_call13_v0 : Ref sig .tc := ⟨.hbm, 298, rfl⟩
abbrev main_call13_v1 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_c_32 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_call14_v0 : Ref sig .tc := ⟨.hbm, 316, rfl⟩
abbrev main_call14_v1 : Ref sig .tc := ⟨.hbm, 317, rfl⟩
abbrev main_v245 : Ref sig .tc := ⟨.hbm, 318, rfl⟩
abbrev main_c_33 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_call15_v0 : Ref sig .tc := ⟨.hbm, 325, rfl⟩
abbrev main_call15_v1 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_cst_34 : Ref sig .tc := ⟨.hbm, 332, rfl⟩
abbrev main_v256 : Ref sig .tc := ⟨.hbm, 333, rfl⟩
abbrev main_v257 : Ref sig .tc := ⟨.hbm, 334, rfl⟩
abbrev main_call16_v0 : Ref sig .tc := ⟨.hbm, 335, rfl⟩
abbrev main_call16_cst : Ref sig .tc := ⟨.hbm, 336, rfl⟩
abbrev main_call16_v1 : Ref sig .tc := ⟨.hbm, 337, rfl⟩
abbrev main_call16_v2 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩

abbrev nD : Nat := 1
abbrev τ : Topo := Topo.v7x

variable {F : FTy → Type} [FloatOps F]
-- ==== Proof.Num.lean ====
module

public import Idealize.ShloMosaic.PureOps.Ideal
public import Idealize.ShloMosaic.Lib.Pointwise

/-! The constants and conversions both programs use, as extended reals. -/

@[expose] public section

noncomputable section

namespace Cert.Num

open Idealize.ShloMosaic

theorem neg_inf : Ideal.ofBits .f32 4286578688#32 = ⊥ := by
  simp [Ideal.ofBits, Ideal.ieee]

theorem pos_inf : Ideal.ofBits .f32 2139095040#32 = ⊤ := by
  simp [Ideal.ofBits, Ideal.ieee]

theorem two : Ideal.ofBits .f32 0x40000000#32 = ((2 : ℝ) : EReal) := by
  simp [Ideal.ofBits, Ideal.ieee]
  rw [← EReal.coe_mul]
  norm_num

theorem neg_two : Ideal.ofBits .f32 0xC0000000#32 = ((-2 : ℝ) : EReal) := by
  simp [Ideal.ofBits, Ideal.ieee]
  rw [← EReal.coe_mul]
  norm_num

theorem n256 : Ideal.ofBits .f32 0x43800000#32 = ((256 : ℝ) : EReal) := by
  simp [Ideal.ofBits, Ideal.ieee]
  rw [← EReal.coe_mul]
  norm_num

theorem n512 : Ideal.ofBits .f32 0x44000000#32 = ((512 : ℝ) : EReal) := by
  simp [Ideal.ofBits, Ideal.ieee]
  rw [← EReal.coe_mul]
  norm_num

theorem n18 : Ideal.ofBits .f32 0x41900000#32 = ((18 : ℝ) : EReal) := by
  simp [Ideal.ofBits, Ideal.ieee]
  rw [← EReal.coe_mul]
  norm_num

/-- The jitter on the system's diagonal. -/
def eps : ℝ := 8796093 / 2 ^ 43

theorem eps_eq : Ideal.ofBits .f32 0x358637BD#32 = (eps : EReal) := by
  simp [Ideal.ofBits, Ideal.ieee, eps]
  rw [← EReal.coe_mul]
  norm_num

/-- The width a degenerate cloud is given. -/
def alt : ℝ := 13421773 / 2 ^ 27

theorem alt_eq : Ideal.ofBits .f32 0x3DCCCCCD#32 = (alt : EReal) := by
  simp [Ideal.ofBits, Ideal.ieee, alt]
  rw [← EReal.coe_mul]
  norm_num

/-- The width below which a cloud is degenerate. -/
def tol : ℝ := 13743895 / 2 ^ 37

theorem tol_eq : Ideal.ofBits .f32 0x38D1B717#32 = (tol : EReal) := by
  simp [Ideal.ofBits, Ideal.ieee, tol]
  rw [← EReal.coe_mul]
  norm_num

/-- The weight above which a point counts. -/
def cut : ℝ := 8589935 / 2 ^ 33

theorem cut_eq : Ideal.ofBits .f32 981668463#32 = (cut : EReal) := by
  simp [Ideal.ofBits, Ideal.ieee, cut]
  rw [← EReal.coe_mul]
  norm_num

/-- A one-bit mask read as a number. -/
theorem sitofp_mask (p : Prop) [Decidable p] :
    FloatOps.sitofp (F := Ideal) FTy.f32 (BitVec.setWidth 32 (BitVec.ofBool (decide p))) = if p then 1 else 0 := by
  by_cases h : p <;> simp [h, FloatOps.sitofp]

end Cert.Num

end
-- ==== Proof.Trip.lean ====
module

public import proofs.«01_k».proof.Proof.Gen.KernelIdeal.Value
public import Idealize.ShloMosaic.PureOps.Ideal
public import Idealize.ShloMosaic.Lib.Pipeline.ValueKit
public import Idealize.ShloMosaic.Lib.VecWindow
public import Idealize.ShloMosaic.Lib.Pointwise
public import proofs.«01_k».proof.Proof.Num

/-! One trip of the selection loop: what it leaves of the distances and the running maximum. -/

@[expose] public section

set_option maxRecDepth 16384

noncomputable section

namespace Cert.KernelIdeal.Block

open Cert.KernelIdeal Cert.KernelIdeal.Gen Idealize.ShloMosaic Idealize.ShloMosaic.TcCoe Idealize.SL.Sem

/-- One piece of the running maximum a trip stores: columns `o` to `o + 255`. -/
def patch (o : Fin 2 → ℕ) (h8 : S64x8192.Slices o S64x256) (hh : S256x8192.Slices o S256x256)
    (q : FVec Ideal S64x8192 .f32) (hf : FVec Ideal S256x8192 .f32) (mm : FVec Ideal S64x8192 .f32) : FVec Ideal S64x256 .f32 :=
  shapeCast S64x256 (maximumf (extractStridedSlice S64x256 o mm h8)
    (matmul dot_S64x256_S256x256_S64x256_1_0_0_1_n_n none (extractStridedSlice S64x256 o q h8)
      (extractStridedSlice S256x256 o hf hh) (constant S64x256 .f32 0x00000000#32))) shapeCasts_S64x256_S64x256

set_option maxHeartbeats 1000000 in
/-- One piece of the running maximum at an index, said of the whole buffer's column. -/
theorem patch_apply (p : ℕ) (hp : p % 256 = 0 := by decide) {a c : Fin 64} {J : Fin 8192} {j : Fin 256}
    (h0 : (a : ℕ) = c) (h1 : (J : ℕ) = p + j)
    (q : FVec Ideal S64x8192 .f32) (hf : FVec Ideal S256x8192 .f32) (mm : FVec Ideal S64x8192 .f32)
    (h8 : S64x8192.Slices ![0, p] S64x256 := by decide) (hh : S256x8192.Slices ![0, p] S256x256 := by decide) :
    patch ![0, p] h8 hh q hf mm (ix2 c j)
      = max (mm (ix2 a J)) (∑ l : Fin 256, q (ix2 a ⟨256 * (J.val / 256) + l, by omega⟩) * hf (ix2 l J)) := by
  obtain rfl : a = c := Fin.ext h0
  have hJ : J.val / 256 * 256 = p := by omega
  pointwise [patch]
  have e (x : ℕ) (hx : x < 8192) (h : x = J.val) : (⟨x, hx⟩ : Fin 8192) = J := Fin.ext h
  rw [e _ _ h1.symm]
  refine congrArg _ (Finset.sum_congr rfl fun l _ => congrArg₂ _ (congrArg (fun t => q (ix2 a t)) (Fin.ext ?_)) (congrArg (fun t => hf (ix2 l t)) (e _ _ h1.symm)))
  show _ + _ = 256 * _ + _
  omega

/-- Where a trip finds the column's maximum or more: what it takes out. -/
theorem hit_apply (acc : FVec Ideal S1x8192 .f32) (cur : FVec Ideal S256x8192 .f32) (l : Fin 256) (J : Fin 8192) :
    k0_pay6 acc cur (ix2 l J) = if acc (ix2 0 J) ≤ cur (ix2 l J) then 1 else 0 := by
  pointwise [k0_pay6, k0_pay2]
  exact Num.sitofp_mask _

/-- The distances a trip leaves, at an index. -/
theorem cur_apply (acc : FVec Ideal S1x8192 .f32) (cur : FVec Ideal S256x8192 .f32) (l : Fin 256) (J : Fin 8192) :
    k0_pay3 acc cur (ix2 l J) = if acc (ix2 0 J) ≤ cur (ix2 l J) then ⊥ else cur (ix2 l J) := by
  pointwise [k0_pay3, k0_pay2]
  rw [Num.neg_inf]

/-- The column maximum a trip yields. -/
theorem colmax_apply (acc : FVec Ideal S1x8192 .f32) (cur : FVec Ideal S256x8192 .f32) (J : Fin 8192) :
    k0_pay5 acc cur (ix2 0 J) = Finset.univ.fold max ⊥ fun l : Fin 256 => k0_pay3 acc cur (ix2 l J) := by
  generalize h : k0_pay3 acc cur = x
  unfold k0_pay5
  rw [h]
  pointwise
  rw [Num.neg_inf]

variable (𝒱 : Variants) (c : Dev nD) (bd : Option 𝒱.V) (i : grid0.Coords)
  (arg1 : Memref sig .tc .vmem S3x8192 .f32) (harg1 : arg1.IsWhole) (arg2 : Memref sig .tc .vmem S32x256x3 .f32) (harg2 : arg2.IsWhole)
  (arg3 : Memref sig .tc .vmem S8192x32 .f32) (harg3 : arg3.IsWhole) (arg4 : Memref sig .tc .vmem S64x3 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S1x1 .f32) (harg9 : arg9.IsWhole) (arg10 : Memref sig .tc .vmem S1x3x32 .f32) (harg10 : arg10.IsWhole)
  (arg11 : Memref sig .tc .vmem S256x8192 .f32) (harg11 : arg11.IsWhole) (arg12 : Memref sig .tc .vmem S64x8192 .f32) (harg12 : arg12.IsWhole)
  (v1 : FVec Ideal S3x8192 .f32) (v618 : FVec Ideal S64x8192 .f32) (v624 : FVec Ideal S1x8192 .f32) (c0_i32 c19_i32 : BitVec 32)
  (k : Fin k0_t1_loop.trips) (acc : FVec Ideal S1x8192 .f32) (f11 : BufTy.Contents (Elt Ideal) arg11.view.ty) (f12 : BufTy.Contents (Elt Ideal) arg12.view.ty)

/-- What a trip yields: the column maxima of the distances it leaves. -/
theorem trip_max :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 v1 v618 v624 c0_i32 c19_i32 k acc f11 f12
      = k0_pay5 acc (arg11.view.read (Elt Ideal) f11) := by
  unfold tripR_k0_t1 trip_k0_t1
  dsimp only
  sl_unfold_words
  exact congrArg (k0_pay5 acc) (View.readAt_full arg11.view f11 inb_S256x8192_S256x8192_0_0)

/-- The distances a trip leaves. -/
theorem trip_cur :
    arg11.view.read (Elt Ideal) (arg11.view.writes (Elt Ideal) f11 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v1 v618 v624 c0_i32 c19_i32 k acc f11 f12).1)
      = k0_pay3 acc (arg11.view.read (Elt Ideal) f11) := by
  unfold tripL_k0_t1 trip_k0_t1
  dsimp only
  sl_unfold_words
  rw [View.readAt_full arg11.view f11 inb_S256x8192_S256x8192_0_0, View.read_writes_full]
  unfold k0_pay4
  rw [shapeCast_self]

set_option maxHeartbeats 2000000 in
/-- The running maximum a trip leaves, at a feature and a point. -/
theorem trip_m (a : Fin 64) (J : Fin 8192) :
    arg12.view.read (Elt Ideal) (arg12.view.writes (Elt Ideal) f12 (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v1 v618 v624 c0_i32 c19_i32 k acc f11 f12).2) (ix2 a J)
      = max (arg12.view.read (Elt Ideal) f12 (ix2 a J)) (∑ l : Fin 256, v618 (ix2 a ⟨256 * (J.val / 256) + l, by omega⟩) * k0_pay6 acc (arg11.view.read (Elt Ideal) f11) (ix2 l J)) := by
  unfold tripL_k0_t1 trip_k0_t1
  dsimp only
  sl_unfold_words
  rw [View.readAt_full arg11.view f11 inb_S256x8192_S256x8192_0_0, View.readAt_full arg12.view f12 inb_S64x8192_S64x8192_0_0]
  rw [View.read_writes_apply_eq_canon _ _ _ _ (View.cover_of_tiled_head _ _ _ (by rfl) _)]
  generalize arg12.view.read (Elt Ideal) f12 = mm
  generalize arg11.view.read (Elt Ideal) f11 = cur
  canon_tiles x h
  all_goals
    idx_vars x
    first
      | exact patch_apply _ (by decide) h0 h1 v618 (k0_pay6 acc cur) mm
      | exact patch_apply 0 (by decide) h0 (h1.trans (Nat.zero_add _).symm) v618 (k0_pay6 acc cur) mm

end Cert.KernelIdeal.Block
end
-- ==== Proof.Loop.lean ====
module

public import proofs.«01_k».proof.Proof.Trip

/-! The selection loop: its state before any trip. -/

@[expose] public section

set_option maxRecDepth 16384

noncomputable section

namespace Cert.KernelIdeal.Block

open Cert.KernelIdeal Cert.KernelIdeal.Gen Idealize.ShloMosaic Idealize.ShloMosaic.TcCoe Idealize.SL.Sem

/-- The column maxima and the distances before trip `k`. -/
def sel (A : FVec Ideal S1x8192 .f32) (C : FVec Ideal S256x8192 .f32) : ℕ → FVec Ideal S1x8192 .f32 × FVec Ideal S256x8192 .f32
  | 0 => (A, C)
  | k + 1 => (k0_pay5 (sel A C k).1 (sel A C k).2, k0_pay3 (sel A C k).1 (sel A C k).2)

/-- The running maximum before trip `k`. -/
def runMax (q : FVec Ideal S64x8192 .f32) (A : FVec Ideal S1x8192 .f32) (C : FVec Ideal S256x8192 .f32) (M : FVec Ideal S64x8192 .f32)
    (a : Fin 64) (J : Fin 8192) : ℕ → EReal
  | 0 => M (ix2 a J)
  | k + 1 => max (runMax q A C M a J k)
      (∑ l : Fin 256, q (ix2 a ⟨256 * (J.val / 256) + l, by omega⟩) * k0_pay6 (sel A C k).1 (sel A C k).2 (ix2 l J))

variable (𝒱 : Variants) (c : Dev nD) (bd : Option 𝒱.V) (i : grid0.Coords)
  (arg1 : Memref sig .tc .vmem S3x8192 .f32) (harg1 : arg1.IsWhole) (arg2 : Memref sig .tc .vmem S32x256x3 .f32) (harg2 : arg2.IsWhole)
  (arg3 : Memref sig .tc .vmem S8192x32 .f32) (harg3 : arg3.IsWhole) (arg4 : Memref sig .tc .vmem S64x3 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S1x1 .f32) (harg9 : arg9.IsWhole) (arg10 : Memref sig .tc .vmem S1x3x32 .f32) (harg10 : arg10.IsWhole)
  (arg11 : Memref sig .tc .vmem S256x8192 .f32) (harg11 : arg11.IsWhole) (arg12 : Memref sig .tc .vmem S64x8192 .f32) (harg12 : arg12.IsWhole)
  (v1 : FVec Ideal S3x8192 .f32) (v618 : FVec Ideal S64x8192 .f32) (v624 : FVec Ideal S1x8192 .f32) (c0_i32 c19_i32 : BitVec 32)
  (G11 : BufTy.Contents (Elt Ideal) arg11.view.ty) (G12 : BufTy.Contents (Elt Ideal) arg12.view.ty) (A : FVec Ideal S1x8192 .f32)

/-- The carried maxima and the scratch buffers before trip `k`. -/
theorem state_eq (k : ℕ) (hk : k ≤ k0_t1_loop.trips) :
    let st := st_k0_t1 (F := Ideal) 𝒱 c bd i arg1 harg1 arg2 harg2 arg3 harg3 arg4 harg4 arg5 harg5 arg6 harg6 arg7 harg7 arg8 harg8 arg9 harg9 arg10 harg10 arg11 harg11 arg12 harg12 v1 v618 v624 c0_i32 c19_i32 G11 G12 A k
    st.1 = (sel A (arg11.view.read (Elt Ideal) G11) k).1
      ∧ arg11.view.read (Elt Ideal) (arg11.view.writes (Elt Ideal) G11 st.2.1) = (sel A (arg11.view.read (Elt Ideal) G11) k).2
      ∧ ∀ a J, arg12.view.read (Elt Ideal) (arg12.view.writes (Elt Ideal) G12 st.2.2) (ix2 a J)
          = runMax v618 A (arg11.view.read (Elt Ideal) G11) (arg12.view.read (Elt Ideal) G12) a J k := by
  induction k with
  | zero => exact ⟨rfl, rfl, fun _ _ => rfl⟩
  | succ k ih =>
    obtain ⟨h1, h2, h3⟩ := ih (by omega)
    intro st
    have hst : st = _ := st_k0_t1_succ 𝒱 c bd i arg1 harg1 arg2 harg2 arg3 harg3 arg4 harg4 arg5 harg5 arg6 harg6 arg7 harg7 arg8 harg8 arg9 harg9 arg10 harg10 arg11 harg11 arg12 harg12 v1 v618 v624 c0_i32 c19_i32 G11 G12 A ⟨k, hk⟩
    rw [hst]
    refine ⟨?_, ?_, fun a J => ?_⟩
    · rw [trip_max, h1, h2]
      rfl
    · rw [View.writes_append, trip_cur, h1, h2]
      rfl
    · rw [View.writes_append, trip_m, h1, h2, h3]
      rfl

end Cert.KernelIdeal.Block

end
-- ==== Proof.Init.lean ====
module

public import proofs.«01_k».proof.Proof.Loop
public import Idealize.ShloMosaic.Lib.WholeRead

/-! The kernel's distances before its selection loop, and the maxima and features the loop starts from. -/

@[expose] public section

set_option maxRecDepth 16384

noncomputable section

namespace Cert.KernelIdeal.Block

open Cert.KernelIdeal Cert.KernelIdeal.Gen Idealize.ShloMosaic Idealize.ShloMosaic.TcCoe Idealize.SL.Sem

/-- The negated squared distances of one cloud: columns `o` to `o + 255`. -/
def dist (o : Fin 2 → ℕ) (h3 : S3x8192.Slices o S3x256) (h1 : S1x8192.Slices o S1x256)
    (v1 : FVec Ideal S3x8192 .f32) (v4 : FVec Ideal S1x8192 .f32) (xb : Vec Ideal S1x256x3 .f32) : FVec Ideal S256x256 .f32 :=
  shapeCast S256x256 (select (k0_pay43) (broadcast S256x256 (Scalar.ofBits .f32 0xFF800000#32))
    (subf (subf (mulf (broadcast S256x256 (Scalar.ofBits .f32 0x40000000#32))
        (matmul dot_S256x3_S3x256_S256x256_1_0_0_1_n_n none (shapeCast S256x3 xb shapeCasts_S1x256x3_S256x3 : FVec Ideal S256x3 .f32)
          (extractStridedSlice S3x256 o v1 h3) (constant S256x256 .f32 0x00000000#32)))
        (broadcastTo S256x256 (extractStridedSlice S1x256 o v4 h1) broadcasts_S1x256_S256x256))
      (broadcastTo S256x256 (shapeCast S256x1 (multiReduction .add [1] S256
        (mulf (shapeCast S256x3 xb shapeCasts_S1x256x3_S256x3 : FVec Ideal S256x3 .f32) (shapeCast S256x3 xb shapeCasts_S1x256x3_S256x3))
        0x00000000#32 reduces_S256x3_S256 (.inl rfl) rfl) shapeCasts_S256_S256x1) broadcasts_S256x1_S256x256))) shapeCasts_S256x256_S256x256

theorem pay43_apply (l j : Fin 256) : k0_pay43 (ix2 l j) = if l = j then 1#1 else 0#1 := by
  pointwise [k0_pay43]
  have h : (BitVec.ofNat 32 l.val = BitVec.ofNat 32 j.val) ↔ l = j := by
    constructor
    · intro h
      have h := congrArg BitVec.toNat h
      rw [BitVec.toNat_ofNat, BitVec.toNat_ofNat] at h
      exact Fin.ext (by omega)
    · rintro rfl
      rfl
  simp only [IntOp.cmpi, h]
  by_cases hc : l = j
  · rw [if_pos hc, hc, beq_self_eq_true]
    rfl
  · rw [if_neg hc, beq_eq_false_iff_ne.2 (mt h.1 hc)]
    rfl

set_option maxHeartbeats 1000000 in
/-- One cloud's distances at an index, said of the whole buffer's column. -/
theorem dist_apply (p : ℕ) (hp : p % 256 = 0 := by decide) {a l : Fin 256} {J : Fin 8192} {j : Fin 256}
    (h0 : (a : ℕ) = l) (h1 : (J : ℕ) = p + j)
    (v1 : FVec Ideal S3x8192 .f32) (v4 : FVec Ideal S1x8192 .f32) (xb : Vec Ideal S1x256x3 .f32)
    (h3 : S3x8192.Slices ![0, p] S3x256 := by decide) (hh : S1x8192.Slices ![0, p] S1x256 := by decide) :
    dist ![0, p] h3 hh v1 v4 xb (ix2 l j)
      = if a.val = J.val % 256 then ⊥ else ((2 : ℝ) : EReal) * (∑ d : Fin 3, xb (ix3 0 a d) * v1 (ix2 d J)) - v4 (ix2 0 J)
          - ∑ d : Fin 3, xb (ix3 0 a d) * xb (ix3 0 a d) := by
  obtain rfl : a = l := Fin.ext h0
  have hJ : (a.val = J.val % 256) ↔ a = j := by
    rw [Fin.ext_iff]
    omega
  have e (x : ℕ) (hx : x < 8192) (h : x = J.val) : (⟨x, hx⟩ : Fin 8192) = J := Fin.ext h
  generalize hd : k0_pay43 = D
  unfold dist
  rw [hd]
  pointwise
  rw [← hd, pay43_apply, Num.neg_inf, Num.two]
  simp only [e _ _ h1.symm]
  by_cases hc : a = j
  · rw [if_pos hc, if_pos (hJ.2 hc)]
    rfl
  · rw [if_neg hc, if_neg (fun h => hc (hJ.1 h))]
    rfl

variable (c : Dev nD) (i : grid0.Coords)
  (arg1 : Memref sig .tc .vmem S3x8192 .f32) (harg1 : arg1.IsWhole) (arg2 : Memref sig .tc .vmem S32x256x3 .f32) (harg2 : arg2.IsWhole)
  (arg11 : Memref sig .tc .vmem S256x8192 .f32)
  (x0 : Vec Ideal S3x8192 .f32) (x1 : Vec Ideal S32x256x3 .f32)

theorem r_eq : kernelRun0_A.sl.r (F := Ideal) c arg1 harg1 x0 = x0 := by
  unfold kernelRun0_A.sl.r k0_pay41
  rw [View.readAt_full arg1.view _ inb_S3x8192_S3x8192_0_0, harg1.read_unread, shapeCast_self]

/-- A point's squared length. -/
theorem r_1_at (J : Fin 8192) : kernelRun0_A.sl.r_1 (F := Ideal) c arg1 harg1 x0 (ix2 0 J) = ∑ d : Fin 3, x0 (ix2 d J) * x0 (ix2 d J) := by
  unfold kernelRun0_A.sl.r_1
  rw [View.readAt_full arg1.view _ inb_S3x8192_S3x8192_0_0, harg1.read_unread]
  pointwise [k0_pay42, k0_pay41]

/-- One cloud's points as they are loaded. -/
theorem load_at (f : BufTy.Contents (Elt Ideal) arg2.view.ty) (p : ℕ) (J : Fin 8192) (hJ : J.val / 256 = p) (inb : ∀ a, (![p, 0, 0] : Fin S32x256x3.rank → ℕ) a + S1x256x3.size a ≤ S32x256x3.size a) (a : Fin 256) (d : Fin 3) :
    View.readAt (Elt Ideal) arg2.view (Rect.unit (s := S32x256x3) ![p, 0, 0] S1x256x3.size inb).toLoadRect f (ix3 0 a d)
      = arg2.view.read (Elt Ideal) f (ix3 ⟨J.val / 256, by omega⟩ a d) := by
  refine congrArg (arg2.view.read (Elt Ideal) f) (funext fun b => ?_)
  match b with
  | ⟨0, _⟩ => exact Fin.ext (by show p + 1 * 0 = J.val / 256; omega)
  | ⟨1, _⟩ => exact Fin.ext (by show 0 + 1 * a.val = a.val; omega)
  | ⟨2, _⟩ => exact Fin.ext (by show 0 + 1 * d.val = d.val; omega)

/-- The negated squared distance of a point of a column's cloud from the column's point, as the kernel adds it up, and nothing at the point itself. -/
def near (l : Fin 256) (J : Fin 8192) : EReal :=
  if l.val = J.val % 256 then ⊥ else ((2 : ℝ) : EReal) * (∑ d : Fin 3, x1 (ix3 ⟨J.val / 256, by omega⟩ l d) * x0 (ix2 d J))
    - (∑ d : Fin 3, x0 (ix2 d J) * x0 (ix2 d J)) - ∑ d : Fin 3, x1 (ix3 ⟨J.val / 256, by omega⟩ l d) * x1 (ix3 ⟨J.val / 256, by omega⟩ l d)

/-- One cloud's stored distances at an index. -/
theorem tile_at (v0 : Vec Ideal S3x8192 .f32) (f : BufTy.Contents (Elt Ideal) arg2.view.ty) (p : ℕ) (hp : p % 256 = 0) {a l : Fin 256} {J : Fin 8192} {j : Fin 256}
    (h0 : (a : ℕ) = l) (h1 : (J : ℕ) = p + j)
    (h3 : S3x8192.Slices ![0, p] S3x256 := by decide) (hh : S1x8192.Slices ![0, p] S1x256 := by decide)
    (inb : ∀ a, (![p / 256, 0, 0] : Fin S32x256x3.rank → ℕ) a + S1x256x3.size a ≤ S32x256x3.size a := by decide) :
    dist ![0, p] h3 hh (k0_pay41 v0) (k0_pay42 v0)
        (View.readAt (Elt Ideal) arg2.view (Rect.unit (s := S32x256x3) ![p / 256, 0, 0] S1x256x3.size inb).toLoadRect f) (ix2 l j)
      = near v0 (arg2.view.read (Elt Ideal) f) a J := by
  have e1 : k0_pay41 v0 = v0 := by
    unfold k0_pay41
    rw [shapeCast_self]
  have e2 : k0_pay42 v0 (ix2 0 J) = ∑ d : Fin 3, v0 (ix2 d J) * v0 (ix2 d J) := by
    pointwise [k0_pay42, k0_pay41]
  rw [dist_apply p hp h0 h1 _ _ _ h3 hh, e1, e2]
  simp only [load_at arg2 f (p / 256) J (by omega)]
  rfl

set_option maxHeartbeats 4000000 in
/-- The distances before the loop, at a place. -/
theorem init_at (l : Fin 256) (J : Fin 8192) :
    arg11.view.read (Elt Ideal) (arg11.view.writes (Elt Ideal) arg11.view.junk (kernelRun0_A.sl.HS0_32 (F := Ideal) c arg1 harg1 arg2 harg2 x0 x1)) (ix2 l J)
      = near x0 x1 l J := by
  have e0 := View.readAt_full arg1.view (harg1.unread x0) inb_S3x8192_S3x8192_0_0
  rw [harg1.read_unread] at e0
  have e1 := harg2.read_unread x1
  unfold kernelRun0_A.sl.HS0_32
  sl_unfold_words
  rw [View.read_writes_apply_eq_canon _ _ _ _ (View.cover_of_tiled_head _ _ _ (by rfl) _)]
  rw [e0]
  generalize harg2.unread x1 = f at e1 ⊢
  rw [← e1]
  clear e0 e1
  generalize x0 = v
  canon_tiles x h
  rotate_left 31
  · idx_vars x
    have this := tile_at arg2 v f 0 (by decide) h0 (h1.trans (Nat.zero_add _).symm)
    exact this
  all_goals
    idx_vars x
    have this := tile_at arg2 v f _ (by decide) h0 h1
    exact this

end Cert.KernelIdeal.Block
end
-- ==== Proof.Select.lean ====
module

public import Mathlib.Data.EReal.Operations
public import Mathlib.Data.Fintype.EquivFin
public import Mathlib.Data.Finset.Fold
public import Mathlib.Algebra.BigOperators.Ring.Finset

/-! Taking a column's greatest entries one at a time, against taking them in sorted order. -/

@[expose] public section

noncomputable section

namespace Cert.Select

/-- A maximum folded from the bottom is the supremum. -/
theorem fold_eq_sup {ι : Type} (s : Finset ι) (f : ι → EReal) : s.fold max ⊥ f = s.sup f := rfl

variable {N : ℕ} (u : Fin N → EReal) (e : Fin N ≃ Fin N) (A : ℕ → EReal) (C : ℕ → Fin N → EReal)

/-- While the columns' maxima are taken out one by one, round `k` finds the entry of rank `k + 1`, and what is gone are the ranks up to `k`. -/
theorem rounds (hu : ∀ l, u l ≠ ⊥) (he : ∀ a b, a < b → u (e b) < u (e a))
    (hA : ∀ k, A k = Finset.univ.fold max ⊥ (C k))
    (h0 : ∀ l, C 0 l = if (e.symm l).val = 0 then ⊥ else u l)
    (hC : ∀ k l, C (k + 1) l = if A k ≤ C k l then ⊥ else C k l) (k : ℕ) (hk : k + 1 < N) :
    A k = u (e ⟨k + 1, hk⟩) ∧ ∀ l, C k l = if (e.symm l).val ≤ k then ⊥ else u l := by
  have top (k : ℕ) (hk : k + 1 < N) (hl : ∀ l, C k l = if (e.symm l).val ≤ k then ⊥ else u l) : A k = u (e ⟨k + 1, hk⟩) := by
    rw [hA, fold_eq_sup]
    refine le_antisymm (Finset.sup_le fun l _ => ?_) ?_
    · rw [hl]
      split
      · exact bot_le
      · rename_i h
        rcases eq_or_lt_of_le (show (⟨k + 1, hk⟩ : Fin N) ≤ e.symm l from Fin.mk_le_of_le_val (by omega)) with h' | h'
        · rw [h', Equiv.apply_symm_apply]
        · have := he _ _ h'
          rw [Equiv.apply_symm_apply] at this
          exact this.le
    · have := Finset.le_sup (f := C k) (Finset.mem_univ (e ⟨k + 1, hk⟩))
      rw [hl, Equiv.symm_apply_apply, if_neg (by simp)] at this
      exact this
  induction k with
  | zero =>
    have h : ∀ l, C 0 l = if (e.symm l).val ≤ 0 then ⊥ else u l := fun l => by rw [h0]; simp
    exact ⟨top 0 hk h, h⟩
  | succ k ih =>
    obtain ⟨ha, hl⟩ := ih (by omega)
    have h : ∀ l, C (k + 1) l = if (e.symm l).val ≤ k + 1 then ⊥ else u l := by
      intro l
      rw [hC, ha, hl]
      by_cases h1 : (e.symm l).val ≤ k
      · rw [if_pos h1, if_pos (by omega : (e.symm l).val ≤ k + 1)]
        split <;> rfl
      · rw [if_neg h1]
        by_cases h2 : (e.symm l).val = k + 1
        · have : l = e ⟨k + 1, by omega⟩ := by
            rw [← Equiv.symm_apply_eq]
            exact Fin.ext h2
          rw [if_pos (by omega : (e.symm l).val ≤ k + 1), if_pos (by rw [this])]
        · have := he ⟨k + 1, by omega⟩ (e.symm l) (Fin.mk_lt_of_lt_val (by omega))
          rw [Equiv.apply_symm_apply] at this
          rw [if_neg (not_le.mpr this), if_neg (by omega)]
    exact ⟨top _ hk h, h⟩

/-- What round `k` hits is the entry of rank `k + 1` alone. -/
theorem hit_iff (hu : ∀ l, u l ≠ ⊥) (he : ∀ a b, a < b → u (e b) < u (e a)) (k : ℕ) (hk : k + 1 < N)
    (ha : A k = u (e ⟨k + 1, hk⟩)) (hl : ∀ l, C k l = if (e.symm l).val ≤ k then ⊥ else u l) (l : Fin N) :
    A k ≤ C k l ↔ l = e ⟨k + 1, hk⟩ := by
  rw [ha, hl]
  constructor
  · intro h
    by_cases h1 : (e.symm l).val ≤ k
    · rw [if_pos h1] at h
      exact absurd (le_bot_iff.mp h) (hu _)
    · rw [if_neg h1] at h
      rw [← Equiv.symm_apply_eq]
      by_contra h2
      have := he ⟨k + 1, hk⟩ (e.symm l) (lt_of_le_of_ne (Fin.mk_le_of_le_val (by omega)) (Ne.symm h2))
      rw [Equiv.apply_symm_apply] at this
      exact absurd h (not_le.mpr this)
  · rintro rfl
    rw [Equiv.symm_apply_apply, if_neg (by simp)]

/-- The maximum of the first entries, one more at a time. -/
theorem runMax_eq (q : Fin N → EReal) (M : ℕ → EReal) (hN : 0 < N) (h0 : M 0 = q (e ⟨0, hN⟩))
    (hM : ∀ k (hk : k + 1 < N), M (k + 1) = max (M k) (q (e ⟨k + 1, hk⟩))) (k : ℕ) (hk : k < N) :
    M k = Finset.univ.fold max ⊥ fun t : Fin (k + 1) => q (e (t.castLE hk)) := by
  induction k with
  | zero =>
    rw [h0, fold_eq_sup]
    exact (Finset.sup_singleton (b := (0 : Fin 1)) (f := fun t : Fin 1 => q (e (t.castLE hk)))).symm
  | succ k ih =>
    rw [hM k hk, ih (by omega), fold_eq_sup, fold_eq_sup]
    refine le_antisymm (max_le (Finset.sup_le fun t _ => ?_) ?_) (Finset.sup_le fun t _ => ?_)
    · exact Finset.le_sup (f := fun t : Fin (k + 2) => q (e (t.castLE hk))) (Finset.mem_univ t.castSucc)
    · exact Finset.le_sup (f := fun t : Fin (k + 2) => q (e (t.castLE hk))) (Finset.mem_univ (Fin.last (k + 1)))
    · rcases Fin.eq_castSucc_or_eq_last t with ⟨t', rfl⟩ | rfl
      · exact le_max_of_le_left (Finset.le_sup (f := fun t : Fin (k + 1) => q (e (t.castLE (by omega)))) (Finset.mem_univ t'))
      · exact le_max_right _ _

/-- A monotone map of a maximum is the maximum of the map. -/
theorem fold_map {k : ℕ} (f : EReal → EReal) (hf : Monotone f) (q : Fin (k + 1) → EReal) :
    (Finset.univ.fold max ⊥ fun t => f (q t)) = f (Finset.univ.fold max ⊥ q) := by
  rw [fold_eq_sup, fold_eq_sup]
  obtain ⟨t, _, ht⟩ := Finset.exists_mem_eq_sup Finset.univ Finset.univ_nonempty q
  refine le_antisymm (Finset.sup_le fun t _ => hf (Finset.le_sup (Finset.mem_univ t))) ?_
  rw [ht]
  exact Finset.le_sup (f := fun t => f (q t)) (Finset.mem_univ t)

/-- A sum against an indicator is the entry. -/
theorem sum_hit (q : Fin N → EReal) (l : Fin N) (p : Fin N → Prop) [DecidablePred p] (hp : ∀ a, p a ↔ a = l) :
    ∑ a, q a * (if p a then 1 else 0) = q l := by
  simp only [hp, mul_ite, mul_one, mul_zero, Finset.sum_ite_eq', Finset.mem_univ, if_true]

end Cert.Select

end
-- ==== Proof.Picked.lean ====
module

public import proofs.«01_k».proof.Proof.Loop
public import proofs.«01_k».proof.Proof.Select

/-! The selection loop in one column: the running maximum it leaves is the largest over the nearest points. -/

@[expose] public section

set_option maxRecDepth 16384

noncomputable section

namespace Cert.KernelIdeal.Block

open Cert.KernelIdeal Cert.KernelIdeal.Gen Idealize.ShloMosaic Idealize.ShloMosaic.TcCoe Idealize.SL.Sem

variable (q : FVec Ideal S64x8192 .f32) (A : FVec Ideal S1x8192 .f32) (C : FVec Ideal S256x8192 .f32) (M : FVec Ideal S64x8192 .f32)
  (a : Fin 64) (J : Fin 8192) (u : Fin 256 → EReal) (e : Fin 256 ≃ Fin 256) (n : Fin 256)

/-- What a feature is at a point of a column's cloud. -/
def fellow (l : Fin 256) : EReal := q (ix2 a ⟨256 * (J.val / 256) + l, by omega⟩)

/-- After 19 rounds the running maximum is the largest over the twenty nearest points. -/
theorem picked (hu : ∀ l, u l ≠ ⊥) (he : ∀ i j, i < j → u (e j) < u (e i)) (he0 : e 0 = n)
    (hA : A (ix2 0 J) = Finset.univ.fold max ⊥ fun l : Fin 256 => C (ix2 l J))
    (hC : ∀ l, C (ix2 l J) = if l = n then ⊥ else u l) (hM : M (ix2 a J) = fellow q a J n) :
    runMax q A C M a J 19 = Finset.univ.fold max ⊥ fun t : Fin 20 => fellow q a J (e (t.castLE (by decide))) := by
  have hA' (k : ℕ) : (sel A C k).1 (ix2 0 J) = Finset.univ.fold max ⊥ fun l : Fin 256 => (sel A C k).2 (ix2 l J) := by
    cases k with
    | zero => exact hA
    | succ k =>
      rw [sel]
      dsimp only
      exact colmax_apply (sel A C k).1 (sel A C k).2 J
  have h0 (l : Fin 256) : (sel A C 0).2 (ix2 l J) = if (e.symm l).val = 0 then ⊥ else u l := by
    have h : l = n ↔ (e.symm l).val = 0 := by
      rw [← he0, ← Equiv.symm_apply_eq, Fin.ext_iff]
      rfl
    refine (hC l).trans ?_
    simp only [h]
  have key := Select.rounds u e (fun k => (sel A C k).1 (ix2 0 J)) (fun k l => (sel A C k).2 (ix2 l J)) hu he hA' h0
    (fun k l => by rw [sel]; exact cur_apply (sel A C k).1 (sel A C k).2 l J)
  refine Select.runMax_eq e (fellow q a J) (fun k => runMax q A C M a J k) (by decide) (hM.trans (congrArg _ he0.symm)) (fun k hk => ?_) 19 (by decide)
  show max _ _ = _
  refine congrArg _ ?_
  obtain ⟨k1, k2⟩ := key k hk
  have hi := Select.hit_iff u e (fun k => (sel A C k).1 (ix2 0 J)) (fun k l => (sel A C k).2 (ix2 l J)) hu he k hk k1 k2
  simp only [hit_apply]
  exact Select.sum_hit (fellow q a J) (e ⟨k + 1, hk⟩) (fun l => (sel A C k).1 (ix2 0 J) ≤ (sel A C k).2 (ix2 l J)) hi

end Cert.KernelIdeal.Block
end
-- ==== Proof.RefHead.lean ====
module

public import proofs.«01_k».proof.Proof.Gen.ReferenceIdeal.Read
public import Idealize.ShloMosaic.Lib.Pointwise
public import Idealize.ShloMosaic.Lib.SortFacts
public import proofs.«01_k».proof.Proof.Num

/-! The reference's first half at an index: the squared distances, the nearest neighbours, the feature each point takes. -/

@[expose] public section

set_option maxRecDepth 16384

noncomputable section

namespace Cert.ReferenceIdeal.Head

open Cert.ReferenceIdeal Cert.ReferenceIdeal.Gen Cert.ReferenceIdeal.Read Idealize.ShloMosaic Idealize.ShloMosaic.TcCoe Idealize.SL.Sem

variable (x0 : FVec Ideal S512x3x256 .f32) (x1 : FVec Ideal S3x64 .f32) (x2 : FVec Ideal S64 .f32) (x3 : FVec Ideal S64x128 .f32)
  (x4 : FVec Ideal S128 .f32) (x5 : FVec Ideal S128x1 .f32) (x6 : FVec Ideal S1 .f32)

/-- The negated squared distance of two points of a cloud. -/
theorem near_apply (b : Fin 512) (n l : Fin 256) :
    val_main_v12 (F := Ideal) x0 (ix3 b n l)
      = -(∑ d : Fin 3, x0 (ix3 b d l) * x0 (ix3 b d l)) - ((-2 : ℝ) : EReal) * (∑ d : Fin 3, x0 (ix3 b d n) * x0 (ix3 b d l))
        - ∑ d : Fin 3, x0 (ix3 b d n) * x0 (ix3 b d n) := by
  pointwise [val_main_v12, val_main_v9, val_main_v11, val_main_v10, val_main_v8, val_main_v7, val_main_v6, val_main_v5, val_main_v4, val_main_v3, val_main_v2, val_main_v1, val_main_v0, val_main_cst, val_main_cst_0]
  rw [Num.neg_two]

/-- The points of a cloud from the nearest to point `n` to the farthest. -/
def order (b : Fin 512) (n : Fin 256) : Fin 256 → Fin 256 :=
  sortedFrom fun k k' => FloatOps.cmpfTotal (F := Ideal) (φ := .f32) .gt (val_main_v12 (F := Ideal) x0 (ix3 b n k)) (val_main_v12 (F := Ideal) x0 (ix3 b n k')) == 1#1

theorem cmpTotal_gt (a b : EReal) : (FloatOps.cmpfTotal (F := Ideal) (φ := .f32) .gt a b == 1#1) = decide (b < a) := by
  show (BitVec.ofBool (decide (b < a)) == 1#1) = _
  by_cases h : b < a <;> simp [h]

/-- No point comes after a farther one. -/
theorem order_le (b : Fin 512) (n : Fin 256) {i j : Fin 256} (hij : i < j) :
    val_main_v12 (F := Ideal) x0 (ix3 b n (order x0 b n j)) ≤ val_main_v12 (F := Ideal) x0 (ix3 b n (order x0 b n i)) := by
  have h := sortedFrom_noInversion
    (fun k k' => FloatOps.cmpfTotal (F := Ideal) (φ := .f32) .gt (val_main_v12 (F := Ideal) x0 (ix3 b n k)) (val_main_v12 (F := Ideal) x0 (ix3 b n k')) == 1#1)
    (fun k k' => FloatOps.cmpfTotal (F := Ideal) (φ := .f32) .gt (val_main_v12 (F := Ideal) x0 (ix3 b n k)) (val_main_v12 (F := Ideal) x0 (ix3 b n k')) == 1#1)
    ?_ (fun _ _ h => h) ?_ i j hij
  · rw [cmpTotal_gt, decide_eq_false_iff_not] at h
    exact not_lt.1 h
  · intro k k' h
    rw [cmpTotal_gt, decide_eq_true_eq] at h
    rw [cmpTotal_gt, decide_eq_false_iff_not]
    exact not_lt.2 h.le
  · intro k l p h h'
    rw [cmpTotal_gt, decide_eq_false_iff_not] at h h' ⊢
    exact not_lt.2 ((not_lt.1 h).trans (not_lt.1 h'))

/-- An index moved along the last axis. -/
theorem along_apply (b : Fin 512) (n t k : Fin 256) :
    Shape.Idx.along (s := S512x256x256) (ix3 b n t) ⟨2, Nat.lt_succ_self 2⟩ k = ix3 b n k := by
  funext a
  match a with
  | ⟨0, _⟩ => rfl
  | ⟨1, _⟩ => rfl
  | ⟨2, _⟩ => rfl

/-- The places the reference's selection returns. -/
theorem idx_apply (b : Fin 512) (n : Fin 256) (t : Fin 20) :
    val_main_indices (F := Ideal) x0 (ix3 b n t) = BitVec.ofNat 32 (order x0 b n (t.castLE (by decide))).val := by
  unfold val_main_indices Host.topK
  pointwise
  unfold Host.sort2
  unfold order
  generalize val_main_v12 (F := Ideal) x0 = y
  rw [dif_pos (by decide)]
  generalize @sortedFrom = S
  show BitVec.ofNat 32 (S (fun k k' : Fin 256 => FloatOps.cmpfTotal (F := Ideal) (φ := .f32) .gt
    (y (Shape.Idx.along (s := S512x256x256) (ix3 b n (t.castLE (by decide))) ⟨2, Nat.lt_succ_self 2⟩ k))
    (y (Shape.Idx.along (s := S512x256x256) (ix3 b n (t.castLE (by decide))) ⟨2, Nat.lt_succ_self 2⟩ k')) == 1#1) (t.castLE (by decide))).val = _
  simp only [along_apply]

/-- The place a gathered neighbour is read at. -/
theorem place (b : Fin 512) (n : Fin 256) (t : Fin 20) (d : Fin 3) (y : IVec S512x256x20x1 32) (e : Fin 256)
    (h : y (ix4 b n t 0) = BitVec.ofNat 32 e.val) :
    gather_S512x256x3_S512x256x20x1_S512x256x20x3_3_1_0_0_1_3_113.operandIdx (ix4 b n t d) y = ix3 b e d := by
  have hs : gather_S512x256x3_S512x256x20x1_S512x256x20x3_3_1_0_0_1_3_113.siIdx (ix4 b n t d) ⟨0, by decide⟩ = ix4 b n t 0 := by
    funext a
    match a with
    | ⟨0, _⟩ => rfl
    | ⟨1, _⟩ => rfl
    | ⟨2, _⟩ => rfl
    | ⟨3, _⟩ => rfl
  funext a
  match a with
  | ⟨0, _⟩ => exact Fin.ext (Nat.zero_add _)
  | ⟨1, _⟩ =>
    refine Fin.ext ?_
    show min (y (gather_S512x256x3_S512x256x20x1_S512x256x20x3_3_1_0_0_1_3_113.siIdx (ix4 b n t d) ⟨0, by decide⟩)).toInt.toNat 255 = e.val
    rw [hs, h, BitVec.toInt_eq_toNat_of_lt (by rw [BitVec.toNat_ofNat]; omega), BitVec.toNat_ofNat]
    omega
  | ⟨2, _⟩ => exact Fin.ext (Nat.zero_add _)

/-- A place is not negative: it stays itself. -/
theorem wrap (e : Fin 256) (z : BitVec 32) :
    Scalar.select (IntOp.cmpi CmpIPredicate.slt (BitVec.ofNat 32 e.val) (val_main_c (F := Ideal) ix0)) z (BitVec.ofNat 32 e.val) = BitVec.ofNat 32 e.val := by
  have h : IntOp.cmpi CmpIPredicate.slt (BitVec.ofNat 32 e.val) (val_main_c (F := Ideal) ix0) = 0#1 := by
    revert e
    decide
  rw [h]
  rfl

/-- The neighbours' coordinates. -/
theorem nbr_apply (b : Fin 512) (n : Fin 256) (t : Fin 20) (d : Fin 3) :
    val_main_v20 (F := Ideal) x0 (ix4 b n t d) = x0 (ix3 b d (order x0 b n (t.castLE (by decide)))) := by
  unfold val_main_v20 Host.gather
  rw [place b n t d _ (order x0 b n (t.castLE (by decide)))]
  · pointwise [val_main_v13]
  · pointwise [val_main_v19, val_main_v18, val_main_v17, val_main_v16, val_main_v15, val_main_v14]
    rw [idx_apply]
    exact wrap _ _

/-- The feature a point takes: the largest over its neighbours. -/
theorem max_apply (b : Fin 512) (n : Fin 256) (c : Fin 64) :
    val_main_v29 (F := Ideal) x0 x1 x2 (ix3 b n c)
      = Finset.univ.fold max ⊥ fun t : Fin 20 =>
          max ((∑ d : Fin 3, (x0 (ix3 b d (order x0 b n (t.castLE (by decide)))) - x0 (ix3 b d n)) * x1 (ix2 d c)) + x2 (ix1 c)) 0 := by
  unfold val_main_v29
  pointwise [val_main_v28, val_main_v27, val_main_v26, val_main_v25, val_main_v24, val_main_v23, val_main_v22, val_main_v21, val_main_v13, val_main_cst_2, val_main_call0_v0, val_main_call0_cst]
  rw [Num.neg_inf]
  simp only [nbr_apply]

end Cert.ReferenceIdeal.Head

end
-- ==== Proof.Solve.lean ====
module

public import Mathlib.Data.Real.Basic
public import Mathlib.Algebra.BigOperators.Fin
public import Mathlib.Algebra.BigOperators.Field
public import Mathlib.Tactic.FieldSimp
public import Mathlib.Tactic.Linarith
public import Mathlib.Tactic.Ring

/-! Solving a symmetric positive definite system by elimination and back-substitution, and by Gauss-Jordan elimination. -/

@[expose] public section

noncomputable section

namespace Cert.Solve

open Finset

variable {n : ℕ}

/-- The matrix after `k` eliminations; rows and columns from `k` on are what counts. -/
def schur (M : Fin n → Fin n → ℝ) : ℕ → Fin n → Fin n → ℝ
  | 0 => M
  | k + 1 => fun r c => if h : k < n then
      schur M k r c - schur M k r ⟨k, h⟩ * (1 / schur M k ⟨k, h⟩ ⟨k, h⟩) * schur M k ⟨k, h⟩ c else schur M k r c

/-- The right side after `k` eliminations. -/
def rhs (M : Fin n → Fin n → ℝ) (b : Fin n → ℝ) : ℕ → Fin n → ℝ
  | 0 => b
  | k + 1 => fun r => if h : k < n then
      rhs M b k r - schur M k r ⟨k, h⟩ * (1 / schur M k ⟨k, h⟩ ⟨k, h⟩) * rhs M b k ⟨k, h⟩ else rhs M b k r

/-- The matrix after `k` steps of Gauss-Jordan elimination. -/
def gj (M : Fin n → Fin n → ℝ) : ℕ → Fin n → Fin n → ℝ
  | 0 => M
  | k + 1 => fun r c => if h : k < n then
      if r = ⟨k, h⟩ then gj M k ⟨k, h⟩ c / gj M k ⟨k, h⟩ ⟨k, h⟩
      else gj M k r c - gj M k r ⟨k, h⟩ * (gj M k ⟨k, h⟩ c / gj M k ⟨k, h⟩ ⟨k, h⟩) else gj M k r c

/-- The right side after `k` steps of Gauss-Jordan elimination. -/
def gjb (M : Fin n → Fin n → ℝ) (b : Fin n → ℝ) : ℕ → Fin n → ℝ
  | 0 => b
  | k + 1 => fun r => if h : k < n then
      if r = ⟨k, h⟩ then gjb M b k ⟨k, h⟩ / gj M k ⟨k, h⟩ ⟨k, h⟩
      else gjb M b k r - gj M k r ⟨k, h⟩ * (gjb M b k ⟨k, h⟩ / gj M k ⟨k, h⟩ ⟨k, h⟩) else gjb M b k r

/-- Positive definite on the coordinates from `k` on. -/
def PosFrom (S : Fin n → Fin n → ℝ) (k : ℕ) : Prop :=
  ∀ v : Fin n → ℝ, (∀ r, r.val < k → v r = 0) → (∃ r, v r ≠ 0) → 0 < ∑ r, ∑ c, v r * S r c * v c

variable (M : Fin n → Fin n → ℝ) (b : Fin n → ℝ)

theorem schur_symm (hs : ∀ r c, M r c = M c r) (k : ℕ) : ∀ r c, schur M k r c = schur M k c r := by
  induction k with
  | zero => exact hs
  | succ k ih =>
    intro r c
    simp only [schur]
    split
    · rw [ih r c, ih r, ih _ c]
      ring
    · exact ih r c

/-- The pivot of a positive definite matrix is positive. -/
theorem pivot_pos {S : Fin n → Fin n → ℝ} {k : ℕ} (h : k < n) (hp : PosFrom S k) : 0 < S ⟨k, h⟩ ⟨k, h⟩ := by
  have := hp (Pi.single ⟨k, h⟩ 1) (fun r hr => Pi.single_eq_of_ne (fun e => by rw [e] at hr; simp at hr) 1) ⟨⟨k, h⟩, by simp⟩
  simpa [Pi.single_apply] using this

/-- Elimination keeps the rest positive definite. -/
theorem posFrom (hs : ∀ r c, M r c = M c r) (hp : PosFrom M 0) (k : ℕ) (hk : k ≤ n) : PosFrom (schur M k) k := by
  induction k with
  | zero => exact hp
  | succ k ih =>
    have ih := ih (by omega)
    have hkn : k < n := hk
    have hpiv := pivot_pos hkn ih
    intro v hv hne
    set S := schur M k with hS
    set κ : Fin n := ⟨k, hkn⟩ with hκ
    set t : ℝ := -(∑ c, S κ c * v c) / S κ κ with ht
    have hvκ : v κ = 0 := hv κ (by simp [hκ])
    let w : Fin n → ℝ := fun r => v r + if r = κ then t else 0
    have hw := ih w (fun r hr => by
        have : r ≠ κ := fun e => by rw [e] at hr; simp [hκ] at hr
        simp only [w, if_neg this, hv r (by omega), add_zero])
      (by
        obtain ⟨r, hr⟩ := hne
        refine ⟨r, ?_⟩
        have : r ≠ κ := fun e => hr (e ▸ hvκ)
        simpa only [w, if_neg this, add_zero] using hr)
    have hsym : ∀ r c, S r c = S c r := schur_symm M hs k
    have e1 : ∑ r, ∑ c, w r * S r c * w c = (∑ r, ∑ c, v r * S r c * v c) + 2 * t * (∑ c, S κ c * v c) + t * t * S κ κ := by
      have inner (r : Fin n) : ∑ c, w r * S r c * w c = (∑ c, w r * S r c * v c) + w r * S r κ * t := by
        simp only [w, mul_add, Finset.sum_add_distrib, mul_ite, mul_zero, Finset.sum_ite_eq', Finset.mem_univ, if_true]
      simp only [inner, Finset.sum_add_distrib]
      have o1 : ∑ r, ∑ c, w r * S r c * v c = (∑ r, ∑ c, v r * S r c * v c) + t * ∑ c, S κ c * v c := by
        have (r : Fin n) : ∑ c, w r * S r c * v c = (∑ c, v r * S r c * v c) + if r = κ then t * ∑ c, S r c * v c else 0 := by
          simp only [w, add_mul, Finset.sum_add_distrib]
          split
          · simp only [mul_assoc, Finset.mul_sum]
          · simp
        simp only [this, Finset.sum_add_distrib, Finset.sum_ite_eq', Finset.mem_univ, if_true]
      have o2 : ∑ r, w r * S r κ * t = t * (∑ c, S κ c * v c) + t * t * S κ κ := by
        simp only [w, add_mul, Finset.sum_add_distrib, ite_mul, zero_mul, Finset.sum_ite_eq', Finset.mem_univ, if_true]
        rw [Finset.mul_sum]
        congr 1
        · exact Finset.sum_congr rfl fun r _ => by rw [hsym r κ]; ring
        · ring
      rw [o1, o2]
      ring
    have e2 : ∑ r, ∑ c, v r * schur M (k + 1) r c * v c = (∑ r, ∑ c, v r * S r c * v c) - (∑ c, S κ c * v c) * (∑ c, S κ c * v c) / S κ κ := by
      have (r c : Fin n) : v r * schur M (k + 1) r c * v c = v r * S r c * v c - (S κ r * v r) * (S κ c * v c) / S κ κ := by
        simp only [schur, dif_pos hkn]
        rw [show schur M k r ⟨k, hkn⟩ = S κ r from hsym r κ]
        show v r * (S r c - S κ r * (1 / S κ κ) * S κ c) * v c = _
        ring
      simp only [this, Finset.sum_sub_distrib, ← Finset.sum_div]
      rw [Finset.sum_mul_sum]
    rw [e2]
    rw [e1] at hw
    have : 2 * t * (∑ c, S κ c * v c) + t * t * S κ κ = -((∑ c, S κ c * v c) * (∑ c, S κ c * v c) / S κ κ) := by
      rw [ht]
      field_simp
      ring
    linarith

/-- Gauss-Jordan elimination: the cleared columns are the identity's, the rest of the rows from `k` on are the eliminated matrix's. -/
theorem gj_spec (hp : ∀ k (h : k < n), schur M k ⟨k, h⟩ ⟨k, h⟩ ≠ 0) (k : ℕ) (hk : k ≤ n) :
    (∀ r c : Fin n, c.val < k → gj M k r c = if r = c then 1 else 0)
      ∧ (∀ r c : Fin n, k ≤ r.val → k ≤ c.val → gj M k r c = schur M k r c) := by
  induction k with
  | zero => exact ⟨fun _ _ h => absurd h (Nat.not_lt_zero _), fun _ _ _ _ => rfl⟩
  | succ k ih =>
    obtain ⟨h1, h2⟩ := ih (by omega)
    have hkn : k < n := hk
    have hd : gj M k ⟨k, hkn⟩ ⟨k, hkn⟩ = schur M k ⟨k, hkn⟩ ⟨k, hkn⟩ := h2 _ _ le_rfl le_rfl
    have hne : gj M k ⟨k, hkn⟩ ⟨k, hkn⟩ ≠ 0 := by rw [hd]; exact hp k hkn
    constructor
    · intro r c hc
      simp only [gj, dif_pos hkn]
      by_cases hck : c.val = k
      · obtain rfl : c = ⟨k, hkn⟩ := Fin.ext hck
        by_cases hr : r = ⟨k, hkn⟩
        · rw [if_pos hr, if_pos hr, div_self hne]
        · rw [if_neg hr, if_neg hr, div_self hne]
          ring
      · have hck' : c.val < k := by omega
        have h0 : gj M k ⟨k, hkn⟩ c = 0 := by
          rw [h1 _ _ hck', if_neg (fun e => by rw [← e] at hck'; simp at hck')]
        by_cases hr : r = ⟨k, hkn⟩
        · rw [if_pos hr, h0, zero_div, if_neg (fun e => by rw [← e, hr] at hck'; simp at hck')]
        · rw [if_neg hr, h0, zero_div, mul_zero, sub_zero, h1 _ _ hck']
    · intro r c hr hc
      simp only [gj, schur, dif_pos hkn]
      rw [if_neg (fun e => by rw [e] at hr; simp at hr), hd, h2 r c (by omega) (by omega), h2 r _ (by omega) le_rfl,
        h2 _ c le_rfl (by omega)]
      ring

/-- Gauss-Jordan elimination keeps a solution. -/
theorem gj_keeps (β : Fin n → ℝ) (hβ : ∀ r, ∑ c, M r c * β c = b r) (k : ℕ) :
    ∀ r, ∑ c, gj M k r c * β c = gjb M b k r := by
  induction k with
  | zero => exact hβ
  | succ k ih =>
    intro r
    simp only [gj, gjb]
    by_cases h : k < n
    · simp only [dif_pos h]
      by_cases hr : r = ⟨k, h⟩
      · simp only [if_pos hr]
        rw [← ih, Finset.sum_div]
        exact Finset.sum_congr rfl fun c _ => by ring
      · simp only [if_neg hr]
        rw [← ih r, ← ih ⟨k, h⟩, Finset.sum_div, Finset.mul_sum, ← Finset.sum_sub_distrib]
        exact Finset.sum_congr rfl fun c _ => by ring
    · simp only [dif_neg h]
      exact ih r

/-- So the right side left by Gauss-Jordan elimination is the solution. -/
theorem gj_solves (hp : ∀ k (h : k < n), schur M k ⟨k, h⟩ ⟨k, h⟩ ≠ 0) (β : Fin n → ℝ) (hβ : ∀ r, ∑ c, M r c * β c = b r)
    (r : Fin n) : gjb M b n r = β r := by
  rw [← gj_keeps M b β hβ n r]
  have (c : Fin n) : gj M n r c = if r = c then 1 else 0 := (gj_spec M hp n le_rfl).1 r c c.isLt
  simp only [this, ite_mul, one_mul, zero_mul, Finset.sum_ite_eq, Finset.mem_univ, if_true]

/-- Back-substitution solves the eliminated system, so the system. -/
theorem back_solves (β : Fin n → ℝ)
    (hβ : ∀ r : Fin n, (∑ c, if r ≤ c then schur M r r c * β c else 0) = rhs M b r r)
    (hp : ∀ k (h : k < n), schur M k ⟨k, h⟩ ⟨k, h⟩ ≠ 0) :
    ∀ r, ∑ c, M r c * β c = b r := by
  have key : ∀ d k, k + d = n → ∀ r : Fin n, k ≤ r.val → (∑ c, if k ≤ c.val then schur M k r c * β c else 0) = rhs M b k r := by
    intro d
    induction d with
    | zero => exact fun k hk r hr => absurd r.isLt (by omega)
    | succ d ih =>
      intro k hk r hr
      have h : k < n := by omega
      have hrow := hβ ⟨k, h⟩
      have hrow' : (∑ c : Fin n, if k ≤ c.val then schur M k ⟨k, h⟩ c * β c else 0) = rhs M b k ⟨k, h⟩ := hrow
      rcases Nat.eq_or_lt_of_le hr with e | hlt
      · obtain rfl : r = ⟨k, h⟩ := Fin.ext e.symm
        exact hrow'
      · have hne := hp k h
        have split (c : Fin n) : (if k ≤ c.val then schur M k r c * β c else 0)
            = (if k + 1 ≤ c.val then schur M (k + 1) r c * β c else 0)
              + schur M k r ⟨k, h⟩ * (1 / schur M k ⟨k, h⟩ ⟨k, h⟩) * (if k ≤ c.val then schur M k ⟨k, h⟩ c * β c else 0) := by
          rcases lt_trichotomy c.val k with hc | hc | hc
          · rw [if_neg (by omega), if_neg (by omega), if_neg (by omega), mul_zero, add_zero]
          · obtain rfl : c = ⟨k, h⟩ := Fin.ext hc
            rw [if_pos le_rfl, if_neg (by simp), if_pos le_rfl]
            field_simp
            ring
          · rw [if_pos (by omega), if_pos (by omega), if_pos (by omega)]
            simp only [schur, dif_pos h]
            ring
        rw [Finset.sum_congr rfl fun c _ => split c, Finset.sum_add_distrib, ← Finset.mul_sum, ih (k + 1) (by omega) r hlt, hrow']
        simp only [rhs, dif_pos h]
        ring
  intro r
  have := key n 0 (by omega) r (Nat.zero_le _)
  simpa [schur, rhs] using this

end Cert.Solve

end
-- ==== Proof.Elim.lean ====
module

public import Idealize.ShloMosaic.PureOps.Ideal
public import Mathlib.Tactic.FieldSimp
public import Mathlib.Tactic.Ring
public import Mathlib.Tactic.Linarith
public import proofs.«01_k».proof.Proof.Solve

/-! The two eliminations on extended reals: where the entries are real and the pivots are not zero, they are the real ones. -/

@[expose] public section

noncomputable section

namespace Cert.Elim

open Idealize.ShloMosaic

/-- A quotient of reals. -/
theorem div_real (x : ℝ) {y : ℝ} (h : y ≠ 0) : Ideal.div (x : EReal) (y : EReal) = ((x / y : ℝ) : EReal) := by
  rw [Ideal.div_coe h, ← EReal.coe_mul, one_div, div_eq_mul_inv]

/-- One pivot of the kernel's elimination. -/
def step (k : Fin 6) (M : Fin 6 → Fin 6 → EReal) (r c : Fin 6) : EReal :=
  M r c - M r k * Ideal.div 1 (M k k) * M k c

/-- … and of its right-hand sides. -/
def rstep (k : Fin 6) (M : Fin 6 → Fin 6 → EReal) (b : Fin 6 → EReal) (r : Fin 6) : EReal :=
  b r - M r k * Ideal.div 1 (M k k) * b k

/-- The kernel's system after its first pivots. -/
def lev (M : Fin 6 → Fin 6 → EReal) (b : Fin 6 → EReal) : ℕ → (Fin 6 → Fin 6 → EReal) × (Fin 6 → EReal)
  | 0 => (M, b)
  | k + 1 => (step (Fin.ofNat 6 k) (lev M b k).1, rstep (Fin.ofNat 6 k) (lev M b k).1 (lev M b k).2)

/-- One pivot of the reference's elimination. -/
def gstep (k : Fin 6) (A : Fin 6 → Fin 6 → EReal) (r c : Fin 6) : EReal :=
  if r = k then Ideal.div (A k c) (A k k) else A r c - A r k * Ideal.div (A k c) (A k k)

/-- … and of its right-hand sides. -/
def grstep (k : Fin 6) (A : Fin 6 → Fin 6 → EReal) (b : Fin 6 → EReal) (r : Fin 6) : EReal :=
  if r = k then Ideal.div (b k) (A k k) else b r - A r k * Ideal.div (b k) (A k k)

/-- The reference's system after its first pivots. -/
def glev (M : Fin 6 → Fin 6 → EReal) (b : Fin 6 → EReal) : ℕ → (Fin 6 → Fin 6 → EReal) × (Fin 6 → EReal)
  | 0 => (M, b)
  | k + 1 => (gstep (Fin.ofNat 6 k) (glev M b k).1, grstep (Fin.ofNat 6 k) (glev M b k).1 (glev M b k).2)

theorem ofNat_eq {k : ℕ} (h : k < 6) : Fin.ofNat 6 k = ⟨k, h⟩ := Fin.ext (Nat.mod_eq_of_lt h)

variable (S : Fin 6 → Fin 6 → ℝ) (b : Fin 6 → ℝ)

/-- The kernel's elimination of a real system. -/
theorem lev_real (hp : ∀ k (h : k < 6), Solve.schur S k ⟨k, h⟩ ⟨k, h⟩ ≠ 0) (k : ℕ) (hk : k ≤ 6) :
    (∀ r c, (lev (fun r c => (S r c : EReal)) (fun r => (b r : EReal)) k).1 r c = (Solve.schur S k r c : EReal))
      ∧ ∀ r, (lev (fun r c => (S r c : EReal)) (fun r => (b r : EReal)) k).2 r = (Solve.rhs S b k r : EReal) := by
  induction k with
  | zero => exact ⟨fun _ _ => rfl, fun _ => rfl⟩
  | succ k ih =>
    obtain ⟨h1, h2⟩ := ih (by omega)
    have h : k < 6 := hk
    have hq := div_real 1 (hp k h)
    rw [EReal.coe_one] at hq
    refine ⟨fun r c => ?_, fun r => ?_⟩
    · show step _ _ r c = _
      unfold step
      rw [ofNat_eq h, h1, h1, h1, h1, hq, Solve.schur]
      simp only [dif_pos h]
      push_cast
      rfl
    · show rstep _ _ _ r = _
      unfold rstep
      rw [ofNat_eq h, h1, h1, h2, h2, hq, Solve.rhs]
      simp only [dif_pos h]
      push_cast
      rfl

/-- The reference's elimination of a real system. -/
theorem glev_real (hp : ∀ k (h : k < 6), Solve.schur S k ⟨k, h⟩ ⟨k, h⟩ ≠ 0) (k : ℕ) (hk : k ≤ 6) :
    (∀ r c, (glev (fun r c => (S r c : EReal)) (fun r => (b r : EReal)) k).1 r c = (Solve.gj S k r c : EReal))
      ∧ ∀ r, (glev (fun r c => (S r c : EReal)) (fun r => (b r : EReal)) k).2 r = (Solve.gjb S b k r : EReal) := by
  induction k with
  | zero => exact ⟨fun _ _ => rfl, fun _ => rfl⟩
  | succ k ih =>
    obtain ⟨h1, h2⟩ := ih (by omega)
    have h : k < 6 := hk
    have hq : Solve.gj S k ⟨k, h⟩ ⟨k, h⟩ ≠ 0 := by
      rw [(Solve.gj_spec S hp k h.le).2 _ _ le_rfl le_rfl]
      exact hp k h
    refine ⟨fun r c => ?_, fun r => ?_⟩
    · show gstep _ _ r c = _
      unfold gstep
      rw [ofNat_eq h, h1, h1, h1, h1, div_real _ hq, Solve.gj]
      simp only [dif_pos h]
      split <;> push_cast <;> rfl
    · show grstep _ _ _ r = _
      unfold grstep
      rw [ofNat_eq h, h1, h1, h2, h2, div_real _ hq, Solve.gjb]
      simp only [dif_pos h]
      split <;> push_cast <;> rfl

/-- One unknown of the back substitution of a real triangle. -/
theorem back_step {e : EReal} {y u : ℝ} (h : e = Ideal.div (y : EReal) (u : EReal)) (hu : u ≠ 0) : ∃ x : ℝ, x * u = y ∧ e = (x : EReal) :=
  ⟨y / u, div_mul_cancel₀ y hu, h.trans (div_real y hu)⟩

/-- The kernel's back substitution gives the reference's solution. -/
theorem back_real (hs : ∀ r c, S r c = S c r) (hpos : Solve.PosFrom S 0) (β : Fin 6 → EReal)
    (A : Fin 6 → Fin 6 → EReal) (y : Fin 6 → EReal)
    (hA : ∀ r c, A r c = (Solve.schur S r.val r c : EReal)) (hy : ∀ r, y r = (Solve.rhs S b r.val r : EReal))
    (h5 : β 5 = Ideal.div (y 5) (A 5 5))
    (h4 : β 4 = Ideal.div (y 4 - A 4 5 * β 5) (A 4 4))
    (h3 : β 3 = Ideal.div (y 3 - A 3 4 * β 4 - A 3 5 * β 5) (A 3 3))
    (h2 : β 2 = Ideal.div (y 2 - A 2 3 * β 3 - A 2 4 * β 4 - A 2 5 * β 5) (A 2 2))
    (h1 : β 1 = Ideal.div (y 1 - A 1 2 * β 2 - A 1 3 * β 3 - A 1 4 * β 4 - A 1 5 * β 5) (A 1 1))
    (h0 : β 0 = Ideal.div (y 0 - A 0 1 * β 1 - A 0 2 * β 2 - A 0 3 * β 3 - A 0 4 * β 4 - A 0 5 * β 5) (A 0 0))
    (r : Fin 6) : β r = (Solve.gjb S b 6 r : EReal) := by
  have hp : ∀ k (h : k < 6), Solve.schur S k ⟨k, h⟩ ⟨k, h⟩ ≠ 0 := fun k h =>
    (Solve.pivot_pos h (Solve.posFrom S hs hpos k h.le)).ne'
  obtain ⟨U, hU⟩ : ∃ U : Fin 6 → Fin 6 → ℝ, ∀ r c, Solve.schur S r.val r c = U r c := ⟨_, fun _ _ => rfl⟩
  obtain ⟨Y, hY⟩ : ∃ Y : Fin 6 → ℝ, ∀ r, Solve.rhs S b r.val r = Y r := ⟨_, fun _ => rfl⟩
  have hq (k : Fin 6) : U k k ≠ 0 := hU k k ▸ hp k.val k.isLt
  simp only [hU] at hA
  simp only [hY] at hy
  simp only [hA, hy, ← EReal.coe_mul, ← EReal.coe_sub] at h5 h4 h3 h2 h1 h0
  obtain ⟨B5, e5, g5⟩ := back_step h5 (hq 5)
  simp only [g5, ← EReal.coe_mul, ← EReal.coe_sub] at h4 h3 h2 h1 h0
  obtain ⟨B4, e4, g4⟩ := back_step h4 (hq 4)
  simp only [g4, ← EReal.coe_mul, ← EReal.coe_sub] at h3 h2 h1 h0
  obtain ⟨B3, e3, g3⟩ := back_step h3 (hq 3)
  simp only [g3, ← EReal.coe_mul, ← EReal.coe_sub] at h2 h1 h0
  obtain ⟨B2, e2, g2⟩ := back_step h2 (hq 2)
  simp only [g2, ← EReal.coe_mul, ← EReal.coe_sub] at h1 h0
  obtain ⟨B1, e1, g1⟩ := back_step h1 (hq 1)
  simp only [g1, ← EReal.coe_mul, ← EReal.coe_sub] at h0
  obtain ⟨B0, e0, g0⟩ := back_step h0 (hq 0)
  have key := Solve.gj_solves S b hp ![B0, B1, B2, B3, B4, B5] (Solve.back_solves S b ![B0, B1, B2, B3, B4, B5] ?_ hp) r
  · have hr : β r = ((![B0, B1, B2, B3, B4, B5] r : ℝ) : EReal) := by
      match r with
      | 0 => exact g0
      | 1 => exact g1
      | 2 => exact g2
      | 3 => exact g3
      | 4 => exact g4
      | 5 => exact g5
    rw [hr, ← key]
  · intro r
    simp only [hU, hY]
    rw [Fin.sum_univ_six]
    have e (a c : Fin 6) (h : a ≤ c) (x y : ℝ) : (if a ≤ c then x else y) = x := if_pos h
    have e' (a c : Fin 6) (h : ¬ a ≤ c) (x y : ℝ) : (if a ≤ c then x else y) = y := if_neg h
    match r with
    | 0 => rw [e 0 0 (by decide), e 0 1 (by decide), e 0 2 (by decide), e 0 3 (by decide), e 0 4 (by decide), e 0 5 (by decide)]; exact (show U 0 0 * B0 + U 0 1 * B1 + U 0 2 * B2 + U 0 3 * B3 + U 0 4 * B4 + U 0 5 * B5 = Y 0 from by linear_combination e0)
    | 1 => rw [e' 1 0 (by decide), e 1 1 (by decide), e 1 2 (by decide), e 1 3 (by decide), e 1 4 (by decide), e 1 5 (by decide)]; exact (show (0 : ℝ) + U 1 1 * B1 + U 1 2 * B2 + U 1 3 * B3 + U 1 4 * B4 + U 1 5 * B5 = Y 1 from by linear_combination e1)
    | 2 => rw [e' 2 0 (by decide), e' 2 1 (by decide), e 2 2 (by decide), e 2 3 (by decide), e 2 4 (by decide), e 2 5 (by decide)]; exact (show (0 : ℝ) + 0 + U 2 2 * B2 + U 2 3 * B3 + U 2 4 * B4 + U 2 5 * B5 = Y 2 from by linear_combination e2)
    | 3 => rw [e' 3 0 (by decide), e' 3 1 (by decide), e' 3 2 (by decide), e 3 3 (by decide), e 3 4 (by decide), e 3 5 (by decide)]; exact (show (0 : ℝ) + 0 + 0 + U 3 3 * B3 + U 3 4 * B4 + U 3 5 * B5 = Y 3 from by linear_combination e3)
    | 4 => rw [e' 4 0 (by decide), e' 4 1 (by decide), e' 4 2 (by decide), e' 4 3 (by decide), e 4 4 (by decide), e 4 5 (by decide)]; exact (show (0 : ℝ) + 0 + 0 + 0 + U 4 4 * B4 + U 4 5 * B5 = Y 4 from by linear_combination e4)
    | 5 => rw [e' 5 0 (by decide), e' 5 1 (by decide), e' 5 2 (by decide), e' 5 3 (by decide), e' 5 4 (by decide), e 5 5 (by decide)]; exact (show (0 : ℝ) + 0 + 0 + 0 + 0 + U 5 5 * B5 = Y 5 from by linear_combination e5)

end Cert.Elim

end
-- ==== Proof.Weight.lean ====
module

public import proofs.«01_k».proof.Proof.Gen.KernelIdeal.Value
public import proofs.«01_k».proof.Proof.RefHead
public import Idealize.ShloMosaic.Lib.Pointwise
public import proofs.«01_k».proof.Proof.Elim

/-! A point's weight, from its largest features. -/

@[expose] public section

set_option maxRecDepth 16384

noncomputable section

namespace Cert.Weight

open Idealize.ShloMosaic Idealize.ShloMosaic.TcCoe Idealize.SL.Sem

/-- The logistic function, at an extended real. -/
def logistic (x : EReal) : EReal := Ideal.div 1 (1 + Ideal.exp (-x))

/-- It is a real number, and not negative. -/
theorem logistic_real (x : EReal) : ∃ r : ℝ, 0 ≤ r ∧ logistic x = (r : EReal) := by
  unfold logistic
  induction x with
  | bot =>
    refine ⟨0, le_rfl, ?_⟩
    show Ideal.div 1 (1 + Ideal.exp ⊤) = _
    rw [Ideal.exp_top, ← EReal.coe_one, EReal.add_top_of_ne_bot (EReal.coe_ne_bot 1)]
    unfold Ideal.div
    rw [if_neg (by simp)]
    simp
  | top =>
    refine ⟨1, zero_le_one, ?_⟩
    show Ideal.div 1 (1 + Ideal.exp ⊥) = _
    rw [Ideal.exp_bot, add_zero, ← EReal.coe_one, Elim.div_real _ one_ne_zero, div_one]
  | coe r =>
    have h : 0 < 1 + Real.exp (-r) := by positivity
    refine ⟨1 / (1 + Real.exp (-r)), by positivity, ?_⟩
    rw [← EReal.coe_neg, Ideal.exp_coe, ← EReal.coe_one, ← EReal.coe_add, Elim.div_real _ h.ne']

/-- The logit, from the largest features. -/
def logit (f : Fin 64 → EReal) (W2 : Fin 64 → Fin 128 → EReal) (b2 : Fin 128 → EReal) (w3 : Fin 128 → EReal) (b3 : EReal) : EReal :=
  (∑ j : Fin 128, max ((∑ c : Fin 64, f c * W2 c j) + b2 j) 0 * w3 j) + b3

end Cert.Weight

namespace Cert.KernelIdeal.Block

open Cert.KernelIdeal Cert.KernelIdeal.Gen Idealize.ShloMosaic Idealize.ShloMosaic.TcCoe Idealize.SL.Sem

/-- The kernel's weight of a column's point. -/
theorem weight_at (q m : FVec Ideal S64x8192 .f32) (b1 : FVec Ideal S64x1 .f32) (w2 : FVec Ideal S128x64 .f32) (b2 w3 : FVec Ideal S128x1 .f32) (b3 : FVec Ideal S1x1 .f32) (J : Fin 8192) :
    k0_pay111 q m b1 w2 b2 w3 b3 (ix2 0 J)
      = Weight.logistic (Weight.logit (fun c => max (m (ix2 c J) - q (ix2 c J) + b1 (ix2 c 0)) 0) (fun c j => w2 (ix2 j c)) (fun j => b2 (ix2 j 0)) (fun j => w3 (ix2 j 0)) (b3 (ix2 0 0))) := by
  pointwise [k0_pay111]
  unfold Weight.logistic Weight.logit
  simp only [mul_comm (w2 _), zero_sub]

end Cert.KernelIdeal.Block

end
-- ==== Proof.Column.lean ====
module

public import proofs.«01_k».proof.Proof.Init
public import proofs.«01_k».proof.Proof.Picked
public import proofs.«01_k».proof.Proof.Weight

/-! The kernel's weight of a column's point, from the nearest points of the column's cloud. -/

@[expose] public section

set_option maxRecDepth 16384

noncomputable section

namespace Cert.KernelIdeal.Block

open Cert.KernelIdeal Cert.KernelIdeal.Gen Idealize.ShloMosaic Idealize.ShloMosaic.TcCoe Idealize.SL.Sem

theorem colmax_start (C : Vec Ideal S256x8192 .f32) (J : Fin 8192) :
    k0_pay106 C (ix2 0 J) = Finset.univ.fold max ⊥ fun l : Fin 256 => C (ix2 l J) := by
  pointwise [k0_pay106]
  rw [Num.neg_inf]

/-- The kernel's features before its first bias. -/
theorem feature_at (v : FVec Ideal S3x8192 .f32) (w : FVec Ideal S64x3 .f32) (a : Fin 64) (J : Fin 8192) :
    k0_pay104 v w (ix2 a J) = ∑ d : Fin 3, w (ix2 a d) * v (ix2 d J) := by
  pointwise [k0_pay104]

theorem store_eq (v : FVec Ideal S3x8192 .f32) (w : FVec Ideal S64x3 .f32) : k0_pay105 v w = k0_pay104 v w := by
  unfold k0_pay105
  rw [shapeCast_self]

variable (c : Dev nD) (i : grid0.Coords)
  (arg1 : Memref sig .tc .vmem S3x8192 .f32) (harg1 : arg1.IsWhole) (arg2 : Memref sig .tc .vmem S32x256x3 .f32) (harg2 : arg2.IsWhole)
  (arg3 : Memref sig .tc .vmem S8192x32 .f32) (harg3 : arg3.IsWhole) (arg4 : Memref sig .tc .vmem S64x3 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S1x1 .f32) (harg9 : arg9.IsWhole) (arg10 : Memref sig .tc .vmem S1x3x32 .f32) (harg10 : arg10.IsWhole)
  (arg11 : Memref sig .tc .vmem S256x8192 .f32) (harg11 : arg11.IsWhole) (arg12 : Memref sig .tc .vmem S64x8192 .f32) (harg12 : arg12.IsWhole)
  (x0 : Vec Ideal S3x8192 .f32) (x1 : Vec Ideal S32x256x3 .f32) (x3 : Vec Ideal S64x3 .f32)
  (x4 : Vec Ideal S64x1 .f32) (x5 : Vec Ideal S128x64 .f32) (x6 : Vec Ideal S128x1 .f32) (x7 : Vec Ideal S128x1 .f32) (x8 : Vec Ideal S1x1 .f32)

theorem r_24_eq : kernelRun0_A.sl.r_24 (F := Ideal) c arg1 harg1 arg4 harg4 x0 x3 = k0_pay104 x0 x3 := by
  unfold kernelRun0_A.sl.r_24
  rw [r_eq, View.readAt_full arg4.view _ inb_S64x3_S64x3_0_0, harg4.read_unread]

theorem base_eq : arg12.view.read (Elt Ideal) (arg12.view.writes (Elt Ideal) arg12.view.junk (kernelRun0_A.sl.HS1_1 (F := Ideal) c arg1 harg1 arg4 harg4 x0 x3))
    = k0_pay104 x0 x3 := by
  unfold kernelRun0_A.sl.HS1_1
  rw [View.read_writes_full arg12.view _ inb_S64x8192_S64x8192_0_0, store_eq, r_eq, View.readAt_full arg4.view _ inb_S64x3_S64x3_0_0, harg4.read_unread]

theorem r_25_at (J : Fin 8192) : kernelRun0_A.sl.r_25 (F := Ideal) c arg1 harg1 arg2 harg2 arg11 x0 x1 (ix2 0 J)
    = Finset.univ.fold max ⊥ fun l : Fin 256 => arg11.view.read (Elt Ideal) (arg11.view.writes (Elt Ideal) arg11.view.junk (kernelRun0_A.sl.HS0_32 (F := Ideal) c arg1 harg1 arg2 harg2 x0 x1)) (ix2 l J) := by
  unfold kernelRun0_A.sl.r_25 kernelRun0_A.sl.v622 View.readCov
  rw [View.readAt_full arg11.view _ inb_S256x8192_S256x8192_0_0]
  exact colmax_start _ J

/-- The running maximum the loop leaves. -/
theorem v627_at (a : Fin 64) (J : Fin 8192) :
    kernelRun0_A.sl.v627 (F := Ideal) c i arg1 harg1 arg2 harg2 arg3 harg3 arg4 harg4 arg5 harg5 arg6 harg6 arg7 harg7 arg8 harg8 arg9 harg9 arg10 harg10 arg11 harg11 arg12 harg12 x0 x1 x3 (ix2 a J)
      = runMax (k0_pay104 x0 x3) (kernelRun0_A.sl.r_25 (F := Ideal) c arg1 harg1 arg2 harg2 arg11 x0 x1)
          (arg11.view.read (Elt Ideal) (arg11.view.writes (Elt Ideal) arg11.view.junk (kernelRun0_A.sl.HS0_32 (F := Ideal) c arg1 harg1 arg2 harg2 x0 x1)))
          (k0_pay104 x0 x3) a J 19 := by
  have key := (state_eq Variants.none c none i arg1 harg1 arg2 harg2 arg3 harg3 arg4 harg4 arg5 harg5 arg6 harg6 arg7 harg7 arg8 harg8 arg9 harg9 arg10 harg10 arg11 harg11 arg12 harg12
    (kernelRun0_A.sl.r (F := Ideal) c arg1 harg1 x0) (kernelRun0_A.sl.r_24 (F := Ideal) c arg1 harg1 arg4 harg4 x0 x3) (kernelRun0_A.sl.r_25 (F := Ideal) c arg1 harg1 arg2 harg2 arg11 x0 x1) 0#32 19#32
    (arg11.view.writes (Elt Ideal) arg11.view.junk (kernelRun0_A.sl.HS0_32 (F := Ideal) c arg1 harg1 arg2 harg2 x0 x1))
    (arg12.view.writes (Elt Ideal) arg12.view.junk (kernelRun0_A.sl.HS1_1 (F := Ideal) c arg1 harg1 arg4 harg4 x0 x3))
    (kernelRun0_A.sl.r_25 (F := Ideal) c arg1 harg1 arg2 harg2 arg11 x0 x1) k0_t1_loop.trips le_rfl).2.2 a J
  have ht : k0_t1_loop.trips = 19 := by decide
  unfold kernelRun0_A.sl.v627 View.readCov
  rw [View.readAt_full arg12.view _ inb_S64x8192_S64x8192_0_0, View.writes_append]
  refine key.trans ?_
  rw [ht, r_24_eq, base_eq]

/-- The largest feature over the twenty nearest points of the column's cloud. -/
theorem max_at (u : Fin 256 → EReal) (e : Fin 256 ≃ Fin 256) (n : Fin 256) (a : Fin 64) (J : Fin 8192) (hn : n.val = J.val % 256)
    (hu : ∀ l, u l ≠ ⊥) (he : ∀ i j, i < j → u (e j) < u (e i)) (he0 : e 0 = n)
    (hC : ∀ l, near x0 x1 l J = if l = n then ⊥ else u l) :
    kernelRun0_A.sl.v627 (F := Ideal) c i arg1 harg1 arg2 harg2 arg3 harg3 arg4 harg4 arg5 harg5 arg6 harg6 arg7 harg7 arg8 harg8 arg9 harg9 arg10 harg10 arg11 harg11 arg12 harg12 x0 x1 x3 (ix2 a J)
      = Finset.univ.fold max ⊥ fun t : Fin 20 => fellow (k0_pay104 x0 x3) a J (e (t.castLE (by decide))) := by
  rw [v627_at]
  refine picked _ _ _ _ a J u e n hu he he0 (r_25_at c arg1 harg1 arg2 harg2 arg11 x0 x1 J) (fun l => ?_) ?_
  · rw [init_at, hC]
  · unfold fellow
    refine congrArg (fun J => k0_pay104 x0 x3 (ix2 a J)) (Fin.ext ?_)
    show J.val = 256 * (J.val / 256) + n.val
    omega

/-- The kernel's weight of a column's point. -/
theorem block_weight (u : Fin 256 → EReal) (e : Fin 256 ≃ Fin 256) (n : Fin 256) (J : Fin 8192) (hn : n.val = J.val % 256)
    (hu : ∀ l, u l ≠ ⊥) (he : ∀ i j, i < j → u (e j) < u (e i)) (he0 : e 0 = n)
    (hC : ∀ l, near x0 x1 l J = if l = n then ⊥ else u l) :
    kernelRun0_A.sl.r_26 (F := Ideal) c i arg1 harg1 arg2 harg2 arg3 harg3 arg4 harg4 arg5 harg5 arg6 harg6 arg7 harg7 arg8 harg8 arg9 harg9 arg10 harg10 arg11 harg11 arg12 harg12 x0 x1 x3 x4 x5 x6 x7 x8 (ix2 0 J)
      = Weight.logistic (Weight.logit
          (fun a => max ((Finset.univ.fold max ⊥ fun t : Fin 20 => fellow (k0_pay104 x0 x3) a J (e (t.castLE (by decide)))) - k0_pay104 x0 x3 (ix2 a J) + x4 (ix2 a 0)) 0)
          (fun a j => x5 (ix2 j a)) (fun j => x6 (ix2 j 0)) (fun j => x7 (ix2 j 0)) (x8 (ix2 0 0))) := by
  unfold kernelRun0_A.sl.r_26
  rw [weight_at, r_24_eq, View.readAt_full arg5.view _ inb_S64x1_S64x1_0_0, View.readAt_full arg6.view _ inb_S128x64_S128x64_0_0,
    View.readAt_full arg7.view _ inb_S128x1_S128x1_0_0, View.readAt_full arg8.view _ inb_S128x1_S128x1_0_0, View.readAt_full arg9.view _ inb_S1x1_S1x1_0_0,
    harg5.read_unread, harg6.read_unread, harg7.read_unread, harg8.read_unread, harg9.read_unread]
  simp only [max_at c i arg1 harg1 arg2 harg2 arg3 harg3 arg4 harg4 arg5 harg5 arg6 harg6 arg7 harg7 arg8 harg8 arg9 harg9 arg10 harg10 arg11 harg11 arg12 harg12 x0 x1 x3 u e n _ J hn hu he he0 hC]

end Cert.KernelIdeal.Block
end
-- ==== Proof.RefWeight.lean ====
module

public import proofs.«01_k».proof.Proof.Weight

/-! A point's weight, as the reference computes it from the largest features. -/

@[expose] public section

set_option maxRecDepth 16384

noncomputable section

namespace Cert.ReferenceIdeal.Head

open Cert.ReferenceIdeal Cert.ReferenceIdeal.Gen Cert.ReferenceIdeal.Read Idealize.ShloMosaic Idealize.ShloMosaic.TcCoe Idealize.SL.Sem

theorem plus (a b : EReal) : FloatOps.addf (F := Ideal) (φ := .f32) a b = a + b := rfl

theorem rect (a b : EReal) : FloatOps.maximumf (F := Ideal) (φ := .f32) (FloatOps.addf (F := Ideal) (φ := .f32) a b) 0 = max (a + b) 0 := rfl

theorem soft (a b x : EReal) : FloatOps.hostDivf (F := Ideal) (φ := .f32) a (FloatOps.addf (F := Ideal) (φ := .f32) b (FloatOps.hostUnary (F := Ideal) (φ := .f32) .exp (FloatOps.hostNegf (F := Ideal) (φ := .f32) x)))
    = Ideal.div a (b + Ideal.exp (-x)) := rfl

variable (x0 : FVec Ideal S512x3x256 .f32) (x1 : FVec Ideal S3x64 .f32) (x2 : FVec Ideal S64 .f32) (x3 : FVec Ideal S64x128 .f32)
  (x4 : FVec Ideal S128 .f32) (x5 : FVec Ideal S128x1 .f32) (x6 : FVec Ideal S1 .f32)

theorem layer_at (b : Fin 512) (n : Fin 256) (j : Fin 128) :
    val_main_v30 (F := Ideal) x0 x1 x2 x3 (ix3 b n j) = ∑ c : Fin 64, val_main_v29 (F := Ideal) x0 x1 x2 (ix3 b n c) * x3 (ix2 c j) := by
  unfold val_main_v30
  generalize val_main_v29 (F := Ideal) x0 x1 x2 = y
  pointwise

theorem bias_at (b : Fin 512) (n : Fin 256) (j : Fin 128) : val_main_v32 (F := Ideal) x4 (ix3 b n j) = x4 (ix1 j) := by
  pointwise [val_main_v32, val_main_v31]

theorem floor_at (b : Fin 512) (n : Fin 256) (j : Fin 128) : val_main_call1_v0 (F := Ideal) (ix3 b n j) = 0 := by
  pointwise [val_main_call1_v0, val_main_call1_cst]

/-- The hidden layer. -/
theorem hidden_at (b : Fin 512) (n : Fin 256) (j : Fin 128) :
    val_main_v34 (F := Ideal) x0 x1 x2 x3 x4 (ix3 b n j)
      = max ((∑ c : Fin 64, val_main_v29 (F := Ideal) x0 x1 x2 (ix3 b n c) * x3 (ix2 c j)) + x4 (ix1 j)) 0 := by
  rw [val_main_v34_apply, val_main_v33_apply, layer_at, bias_at, floor_at]
  exact rect _ _

theorem out_at (b : Fin 512) (n : Fin 256) :
    val_main_v35 (F := Ideal) x0 x1 x2 x3 x4 x5 (ix3 b n 0) = ∑ j : Fin 128, val_main_v34 (F := Ideal) x0 x1 x2 x3 x4 (ix3 b n j) * x5 (ix2 j 0) := by
  unfold val_main_v35
  generalize val_main_v34 (F := Ideal) x0 x1 x2 x3 x4 = y
  pointwise

theorem last_at (b : Fin 512) (n : Fin 256) : val_main_v37 (F := Ideal) x6 (ix3 b n 0) = x6 (ix1 0) := by
  pointwise [val_main_v37, val_main_v36]

/-- The logit. -/
theorem logit_at (b : Fin 512) (n : Fin 256) :
    val_main_v38 (F := Ideal) x0 x1 x2 x3 x4 x5 x6 (ix3 b n 0)
      = (∑ j : Fin 128, val_main_v34 (F := Ideal) x0 x1 x2 x3 x4 (ix3 b n j) * x5 (ix2 j 0)) + x6 (ix1 0) := by
  rw [val_main_v38_apply, out_at, last_at]
  exact plus _ _

theorem flat_at (b : Fin 512) (n : Fin 256) :
    val_main_v39 (F := Ideal) x0 x1 x2 x3 x4 x5 x6 (ix2 b n) = val_main_v38 (F := Ideal) x0 x1 x2 x3 x4 x5 x6 (ix3 b n 0) := by
  unfold val_main_v39
  generalize val_main_v38 (F := Ideal) x0 x1 x2 x3 x4 x5 x6 = y
  pointwise

theorem one_at (b : Fin 512) (n : Fin 256) : val_main_v42 (F := Ideal) (ix2 b n) = 1 := by
  pointwise [val_main_v42, val_main_cst_3]

theorem one_at' (b : Fin 512) (n : Fin 256) : val_main_v44 (F := Ideal) (ix2 b n) = 1 := by
  pointwise [val_main_v44, val_main_cst_4]

/-- The reference's weight of a point. -/
theorem weight_at (b : Fin 512) (n : Fin 256) :
    val_main_v45 (F := Ideal) x0 x1 x2 x3 x4 x5 x6 (ix2 b n)
      = Weight.logistic (Weight.logit (fun c => val_main_v29 (F := Ideal) x0 x1 x2 (ix3 b n c)) (fun c j => x3 (ix2 c j)) (fun j => x4 (ix1 j)) (fun j => x5 (ix2 j 0)) (x6 (ix1 0))) := by
  unfold Weight.logistic Weight.logit
  rw [val_main_v45_apply, val_main_v43_apply, val_main_v41_apply, val_main_v40_apply, one_at, one_at', flat_at, logit_at,
    Finset.sum_congr rfl fun j _ => congrArg (· * x5 (ix2 j 0)) (hidden_at x0 x1 x2 x3 x4 b n j)]
  exact soft _ _ _

end Cert.ReferenceIdeal.Head

end
-- ==== Proof.Tail.lean ====
module

public import proofs.«01_k».proof.Proof.Gen.KernelIdeal.Value
public import Idealize.ShloMosaic.PureOps.Ideal
public import Idealize.ShloMosaic.Lib.Pipeline.ValueKit
public import Idealize.ShloMosaic.Lib.VecWindow
public import Idealize.ShloMosaic.Lib.Pointwise

/-! The second half of the kernel, from the points' weights to the normals: the sums, the six by six system, its elimination and its back substitution. -/

@[expose] public section

set_option maxRecDepth 16384

noncomputable section

namespace Cert.KernelIdeal.Tail

open Cert.KernelIdeal Cert.KernelIdeal.Gen Idealize.ShloMosaic Idealize.ShloMosaic.TcCoe Idealize.SL.Sem

/-- A row over the block's clouds. -/
abbrev V : Type := FVec Ideal S1x32 .f32

theorem slices_row (r : ℕ) (h : r < 57) : S57x32.Slices ![r, 0] S1x32 := by
  interval_cases r <;> decide

/-- One row of the sums. -/
def row (s : FVec Ideal S57x32 .f32) (r : ℕ) (h : r < 57) : V := extractStridedSlice S1x32 ![r, 0] s (slices_row r h)

/-- Where the sum of the product of two features is kept. -/
def place (a b : Fin 6) : Fin 21 :=
  (![![0, 1, 2, 3, 4, 5], ![1, 6, 7, 8, 9, 10], ![2, 7, 11, 12, 13, 14], ![3, 8, 12, 15, 16, 17], ![4, 9, 13, 16, 18, 19], ![5, 10, 14, 17, 19, 20]] : Fin 6 → Fin 6 → Fin 21) a b

/-- The weighted sum or the plain one. -/
def pick (s : FVec Ideal S57x32 .f32) (u : IVec S1x32 1) (j : Fin 27) : V :=
  select u (row s (27 + j.val) (by omega)) (row s j.val (by omega))

def one : V := broadcast S1x32 (Scalar.ofBits .f32 0x3F800000#32)

/-- The features' scales. -/
def scale (hinv : V) : Fin 6 → V := ![hinv, hinv, mulf hinv hinv, mulf hinv hinv, mulf hinv hinv, one]

/-- The system's matrix, one entry a row over the clouds. -/
def mat (s : FVec Ideal S57x32 .f32) (u : IVec S1x32 1) (hinv : V) (a b : Fin 6) : V :=
  if a.val = b.val then
    addf (mulf (pick s u ((place a b).castLE (by decide))) (mulf (scale hinv a) (scale hinv b))) (broadcast S1x32 (Scalar.ofBits .f32 0x358637BD#32))
  else if a.val < b.val then mulf (pick s u ((place a b).castLE (by decide))) (mulf (scale hinv a) (scale hinv b))
  else mulf (pick s u ((place b a).castLE (by decide))) (mulf (scale hinv b) (scale hinv a))

/-- The system's right-hand side. -/
def vec (s : FVec Ideal S57x32 .f32) (u : IVec S1x32 1) (hinv : V) (a : Fin 6) : V :=
  mulf (pick s u (a.natAdd 21)) (scale hinv a)

/-- One pivot, row by row over the clouds. -/
def vstep (k : Fin 6) (M : Fin 6 → Fin 6 → V) (r c : Fin 6) : V :=
  subf (M r c) (mulf (mulf (M r k) (divf one (M k k))) (M k c))

def vrstep (k : Fin 6) (M : Fin 6 → Fin 6 → V) (b : Fin 6 → V) (r : Fin 6) : V :=
  subf (b r) (mulf (mulf (M r k) (divf one (M k k))) (b k))

variable (M : Fin 6 → Fin 6 → V) (b : Fin 6 → V)

/-- The system after its first pivots. -/
def m1 := vstep 0 M
def m2 := vstep 1 (m1 M)
def m3 := vstep 2 (m2 M)
def m4 := vstep 3 (m3 M)
def m5 := vstep 4 (m4 M)
def b1 := vrstep 0 M b
def b2 := vrstep 1 (m1 M) (b1 M b)
def b3 := vrstep 2 (m2 M) (b2 M b)
def b4 := vrstep 3 (m3 M) (b3 M b)
def b5 := vrstep 4 (m4 M) (b4 M b)

/-- The unknowns, from the last to the first. -/
def x5 : V := divf (b5 M b 5) (m5 M 5 5)
def x4 : V := divf (subf (b4 M b 4) (mulf (m4 M 4 5) (x5 M b))) (m4 M 4 4)
def x3 : V := divf (subf (subf (b3 M b 3) (mulf (m3 M 3 4) (x4 M b))) (mulf (m3 M 3 5) (x5 M b))) (m3 M 3 3)
def x2 : V := divf (subf (subf (subf (b2 M b 2) (mulf (m2 M 2 3) (x3 M b))) (mulf (m2 M 2 4) (x4 M b))) (mulf (m2 M 2 5) (x5 M b))) (m2 M 2 2)
def x1 : V := divf (subf (subf (subf (subf (b1 M b 1) (mulf (m1 M 1 2) (x2 M b))) (mulf (m1 M 1 3) (x3 M b))) (mulf (m1 M 1 4) (x4 M b))) (mulf (m1 M 1 5) (x5 M b))) (m1 M 1 1)
def x0 : V := divf (subf (subf (subf (subf (subf (b 0) (mulf (M 0 1) (x1 M b))) (mulf (M 0 2) (x2 M b))) (mulf (M 0 3) (x3 M b))) (mulf (M 0 4) (x4 M b))) (mulf (M 0 5) (x5 M b))) (M 0 0)

/-- What the block's sums are taken of: the points' coordinates `v`, their weights `w`, the clouds' membership `o`. -/
def sums (v : FVec Ideal S3x8192 .f32) (w : FVec Ideal S1x8192 .f32) (o : FVec Ideal S8192x32 .f32) : FVec Ideal S57x32 .f32 :=
  k0_pay148 w (k0_pay112 v) (k0_pay113 v)
    (k0_pay146 (k0_pay112 v) (k0_pay113 v) (k0_pay114 v) (k0_pay115 v) (k0_pay116 v))
    (k0_pay147 w (k0_pay112 v) (k0_pay113 v) (k0_pay114 v) (k0_pay115 v) (k0_pay116 v))
    (Scalar.ofBits .f32 981668463#32) o

/-- Where the weights are used. -/
def use (v : FVec Ideal S3x8192 .f32) (w : FVec Ideal S1x8192 .f32) (o : FVec Ideal S8192x32 .f32) : IVec S1x32 1 :=
  k0_pay149 w (k0_pay112 v) (k0_pay113 v)
    (k0_pay146 (k0_pay112 v) (k0_pay113 v) (k0_pay114 v) (k0_pay115 v) (k0_pay116 v))
    (k0_pay147 w (k0_pay112 v) (k0_pay113 v) (k0_pay114 v) (k0_pay115 v) (k0_pay116 v))
    (Scalar.ofBits .f32 981668463#32) o

/-- The reciprocal of the clouds' widths. -/
def hinv (v : FVec Ideal S3x8192 .f32) (w : FVec Ideal S1x8192 .f32) (o : FVec Ideal S8192x32 .f32) : V :=
  k0_pay150 w (k0_pay112 v) (k0_pay113 v)
    (k0_pay146 (k0_pay112 v) (k0_pay113 v) (k0_pay114 v) (k0_pay115 v) (k0_pay116 v))
    (k0_pay147 w (k0_pay112 v) (k0_pay113 v) (k0_pay114 v) (k0_pay115 v) (k0_pay116 v))
    (Scalar.ofBits .f32 981668463#32) o

/-- The block's system. -/
def matK (v : FVec Ideal S3x8192 .f32) (w : FVec Ideal S1x8192 .f32) (o : FVec Ideal S8192x32 .f32) : Fin 6 → Fin 6 → V :=
  mat (sums v w o) (use v w o) (hinv v w o)

def vecK (v : FVec Ideal S3x8192 .f32) (w : FVec Ideal S1x8192 .f32) (o : FVec Ideal S8192x32 .f32) : Fin 6 → V :=
  vec (sums v w o) (use v w o) (hinv v w o)

/-- The block's normals. -/
def normals (v : FVec Ideal S3x8192 .f32) (w : FVec Ideal S1x8192 .f32) (o : FVec Ideal S8192x32 .f32) : FVec Ideal S1x3x32 .f32 :=
  k0_pay1 (hinv v w o) (x1 (matK v w o) (vecK v w o))
    (mulf (subf (broadcast S1x32 (Scalar.ofBits .f32 0x00000000#32)) (x0 (matK v w o) (vecK v w o))) (hinv v w o))

end Cert.KernelIdeal.Tail

end
-- ==== Proof.Sums.lean ====
module

public import proofs.«01_k».proof.Proof.Tail
public import proofs.«01_k».proof.Proof.Num

/-! The block's sums at a row and a cloud: one sum over the cloud's points. -/

@[expose] public section

set_option maxRecDepth 16384

noncomputable section

namespace Cert.KernelIdeal.Tail

open Cert.KernelIdeal Cert.KernelIdeal.Gen Idealize.ShloMosaic Idealize.ShloMosaic.TcCoe Idealize.SL.Sem

/-- The column of a point of a cloud. -/
def col (p : Fin 32) (n : Fin 256) : Fin 8192 := ⟨256 * p.val + n.val, by omega⟩

/-- A sum against a cloud's membership is the sum over its points. -/
theorem sum_member (f : Fin 8192 → EReal) (p : Fin 32) :
    ∑ J : Fin 8192, f J * (if J.val / 256 = p.val then 1 else 0) = ∑ n : Fin 256, f (col p n) := by
  rw [← (finProdFinEquiv (m := 32) (n := 256)).sum_comp, Fintype.sum_prod_type, Finset.sum_eq_single p]
  · refine Finset.sum_congr rfl fun n _ => ?_
    have e : (finProdFinEquiv (m := 32) (n := 256)) (p, n) = col p n := Fin.ext (by simp [col, finProdFinEquiv]; omega)
    rw [e, if_pos (by simp [col]; omega), mul_one]
  · intro q _ hq
    refine Finset.sum_eq_zero fun n _ => ?_
    rw [if_neg, mul_zero]
    intro h
    apply hq
    have e : ((finProdFinEquiv (m := 32) (n := 256)) (q, n)).val = n.val + 256 * q.val := by simp [finProdFinEquiv]
    rw [e] at h
    exact Fin.ext (by omega)
  · exact fun h => absurd (Finset.mem_univ p) h

variable (v : FVec Ideal S3x8192 .f32) (w : FVec Ideal S1x8192 .f32) (o : FVec Ideal S8192x32 .f32)

/-- What is summed, row by row. -/
def stat : FVec Ideal S57x8192 .f32 :=
  concatenate S57x8192 0 [⟨S27x8192, k0_pay146 (k0_pay112 v) (k0_pay113 v) (k0_pay114 v) (k0_pay115 v) (k0_pay116 v)⟩,
    ⟨S27x8192, k0_pay147 w (k0_pay112 v) (k0_pay113 v) (k0_pay114 v) (k0_pay115 v) (k0_pay116 v)⟩,
    ⟨S3x8192, concatenate S3x8192 0 [⟨S1x8192, sitofp .f32 (extui 32 (cmpf .ogt w (broadcast S1x8192 (Scalar.ofBits .f32 981668463#32))) natLt_1_32)⟩,
      ⟨S1x8192, absf (k0_pay112 v)⟩, ⟨S1x8192, absf (k0_pay113 v)⟩] concatenates_S1x8192_S1x8192_S1x8192_S3x8192_d0⟩]
    concatenates_S27x8192_S27x8192_S3x8192_S57x8192_d0

theorem sums_eq : sums v w o = matmul dot_S57x8192_S8192x32_S57x32_1_0_0_1_n_n none (stat v w)
    (shapeCast S8192x32 o shapeCasts_S8192x32_S8192x32) (constant S57x32 .f32 0x00000000#32) := rfl

/-- The sums at a row and a cloud. -/
theorem sums_at (ho : ∀ J p, o (ix2 J p) = if J.val / 256 = p.val then 1 else 0) (r : Fin 57) (p : Fin 32) :
    sums v w o (ix2 r p) = ∑ n, stat v w (ix2 r (col p n)) := by
  rw [sums_eq, ← sum_member (fun J => stat v w (ix2 r J)) p]
  generalize stat v w = y
  pointwise
  exact Finset.sum_congr rfl fun J _ => congrArg (y (ix2 r J) * ·) (ho J p)

/-- A point's features. -/
def feat (J : Fin 8192) : Fin 6 → EReal :=
  ![v (ix2 0 J), v (ix2 1 J), v (ix2 0 J) * v (ix2 0 J), v (ix2 1 J) * v (ix2 1 J), v (ix2 0 J) * v (ix2 1 J), 1]

/-- The plain products. -/
theorem prod_at (a b : Fin 6) (h : a ≤ b) (J : Fin 8192) :
    stat v w (ix2 ((place a b).castLE (by decide)) J) = feat v J a * feat v J b := by
  unfold stat feat
  fin_cases a <;> fin_cases b
  all_goals first
    | exact absurd h (by decide)
    | skip
  all_goals
    dsimp only [place, Fin.castLE, Fin.zero_eta, Fin.mk_one, Fin.reduceFinMk, Fin.isValue, Matrix.cons_val]
  all_goals pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
  all_goals first
    | rfl
    | rw [mul_one]

/-- The products with the height. -/
theorem moment_at (a : Fin 6) (J : Fin 8192) :
    stat v w (ix2 ((a.natAdd 21).castLE (by decide)) J) = feat v J a * v (ix2 2 J) := by
  unfold stat feat
  fin_cases a
  all_goals
    dsimp only [Fin.natAdd, Fin.castLE, Fin.zero_eta, Fin.mk_one, Fin.reduceFinMk, Fin.isValue, Matrix.cons_val]
  all_goals pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
  all_goals first
    | rfl
    | rw [one_mul]

/-- The weighted products. -/
theorem weighted_at (j : Fin 27) (J : Fin 8192) :
    stat v w (ix2 ((j.natAdd 27).castLE (by decide)) J) = stat v w (ix2 (j.castLE (by decide)) J) * w (ix2 0 J) := by
  unfold stat
  fin_cases j
  all_goals
    dsimp only [Fin.natAdd, Fin.castLE, Fin.zero_eta, Fin.mk_one, Fin.reduceFinMk, Fin.isValue, Matrix.cons_val]
  all_goals pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]

/-- The points that count. -/
theorem count_at (J : Fin 8192) : stat v w (ix2 54 J) = if Ideal.ofBits .f32 981668463#32 < w (ix2 0 J) then 1 else 0 := by
  unfold stat
  pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
  exact Num.sitofp_mask _

/-- The absolute coordinates. -/
theorem abs_at (J : Fin 8192) :
    stat v w (ix2 55 J) = FloatOps.absf (F := Ideal) (φ := .f32) (v (ix2 0 J)) ∧ stat v w (ix2 56 J) = FloatOps.absf (F := Ideal) (φ := .f32) (v (ix2 1 J)) := by
  unfold stat
  constructor
  all_goals pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]

end Cert.KernelIdeal.Tail

end
-- ==== Proof.Agree.lean ====
module

public import proofs.«01_k».proof.Proof.Column
public import proofs.«01_k».proof.Proof.RefWeight
public import proofs.«01_k».proof.Proof.Sums

/-! The two programs' weights of a point are the same number: the nearest points are the same, and the largest feature over them. -/

@[expose] public section

set_option maxRecDepth 16384

noncomputable section

namespace Cert.Agree

open Idealize.ShloMosaic Idealize.ShloMosaic.TcCoe Idealize.SL.Sem

variable (P : Fin 3 → Fin 256 → ℝ)

/-- The squared distance of two points of a cloud. -/
def gap (n l : Fin 256) : ℝ := ∑ d : Fin 3, (P d n - P d l) ^ 2

/-- No two points of the cloud are equally far from any point. -/
def Distinct : Prop := ∀ n j k, j ≠ k → gap P n j ≠ gap P n k

theorem gap_self (n : Fin 256) : gap P n n = 0 := by
  simp [gap]

theorem gap_nonneg (n l : Fin 256) : 0 ≤ gap P n l :=
  Finset.sum_nonneg fun d _ => sq_nonneg _

/-- The negated squared distance as the reference adds it up. -/
theorem ref_gap (n l : Fin 256) :
    -(∑ d : Fin 3, ((P d l : ℝ) : EReal) * (P d l : EReal)) - ((-2 : ℝ) : EReal) * (∑ d : Fin 3, (P d n : EReal) * (P d l : EReal))
        - ∑ d : Fin 3, (P d n : EReal) * (P d n : EReal) = ((-gap P n l : ℝ) : EReal) := by
  unfold gap
  simp only [Fin.sum_univ_three]
  simp only [← EReal.coe_mul, ← EReal.coe_add, ← EReal.coe_neg, ← EReal.coe_sub]
  congr 1
  ring

/-- The negated squared distance as the kernel adds it up. -/
theorem ker_gap (n l : Fin 256) :
    ((2 : ℝ) : EReal) * (∑ d : Fin 3, ((P d l : ℝ) : EReal) * (P d n : EReal)) - (∑ d : Fin 3, (P d n : EReal) * (P d n : EReal))
        - ∑ d : Fin 3, (P d l : EReal) * (P d l : EReal) = ((-gap P n l : ℝ) : EReal) := by
  unfold gap
  simp only [Fin.sum_univ_three]
  simp only [← EReal.coe_mul, ← EReal.coe_add, ← EReal.coe_sub]
  congr 1
  ring

/-- A feature before its bias. -/
def feat (w : Fin 3 → ℝ) (l : Fin 256) : ℝ := ∑ d : Fin 3, P d l * w d

theorem feat_ref (w : Fin 3 → ℝ) (n l : Fin 256) :
    (∑ d : Fin 3, (((P d l : ℝ) : EReal) - (P d n : EReal)) * (w d : EReal)) = (feat P w l : EReal) - (feat P w n : EReal) := by
  unfold feat
  simp only [Fin.sum_univ_three]
  simp only [← EReal.coe_mul, ← EReal.coe_add, ← EReal.coe_sub]
  congr 1
  ring

theorem feat_ker (w : Fin 3 → ℝ) (l : Fin 256) : (∑ d : Fin 3, ((w d : ℝ) : EReal) * (P d l : EReal)) = (feat P w l : EReal) := by
  unfold feat
  simp only [Fin.sum_univ_three]
  simp only [← EReal.coe_mul, ← EReal.coe_add]
  congr 1
  ring

/-- Taking a feature from a point's and adding the bias keeps the order. -/
theorem step_mono (q : ℝ) (b : EReal) : Monotone fun a : EReal => max (a - (q : EReal) + b) 0 := fun x y h =>
  max_le_max (add_le_add (EReal.sub_le_sub h le_rfl) le_rfl) le_rfl

section Ref

open Cert.ReferenceIdeal Cert.ReferenceIdeal.Gen Cert.ReferenceIdeal.Read Cert.ReferenceIdeal.Head

variable (x0 : FVec Ideal S512x3x256 .f32) (x1 : FVec Ideal S3x64 .f32) (x2 : FVec Ideal S64 .f32) (b : Fin 512)

theorem near_real (hP : ∀ d n, x0 (ix3 b d n) = (P d n : EReal)) (n l : Fin 256) :
    val_main_v12 (F := Ideal) x0 (ix3 b n l) = ((-gap P n l : ℝ) : EReal) := by
  rw [near_apply]
  simp only [hP]
  exact ref_gap P n l

theorem order_bij (n : Fin 256) : Function.Bijective (order x0 b n) := by
  unfold order
  exact ⟨sortedFrom_injective _, sortedFrom_surjective _⟩

theorem exists_perm {f : Fin 256 → Fin 256} (hf : Function.Bijective f) : ∃ e : Fin 256 ≃ Fin 256, ∀ i, e i = f i :=
  ⟨Equiv.ofBijective f hf, fun _ => rfl⟩

/-- The reference's order of a cloud, as a permutation. -/
def perm (n : Fin 256) : Fin 256 ≃ Fin 256 := Classical.choose (exists_perm (order_bij x0 b n))

theorem perm_apply (n i : Fin 256) : perm x0 b n i = order x0 b n i := Classical.choose_spec (exists_perm (order_bij x0 b n)) i

theorem perm_le (hP : ∀ d n, x0 (ix3 b d n) = (P d n : EReal)) (n : Fin 256) {i j : Fin 256} (hij : i < j) :
    ((-gap P n (perm x0 b n j) : ℝ) : EReal) ≤ ((-gap P n (perm x0 b n i) : ℝ) : EReal) := by
  have h := order_le x0 b n hij
  rw [near_real P x0 b hP, near_real P x0 b hP] at h
  rw [perm_apply, perm_apply]
  exact h

theorem lt_of_perm (e : Fin 256 ≃ Fin 256) (hD : Distinct P) (n i j : Fin 256) (hij : i < j)
    (h : ((-gap P n (e j) : ℝ) : EReal) ≤ ((-gap P n (e i) : ℝ) : EReal)) : ((-gap P n (e j) : ℝ) : EReal) < ((-gap P n (e i) : ℝ) : EReal) := by
  refine lt_of_le_of_ne h fun k => ?_
  have k' : -gap P n (e j) = -gap P n (e i) := EReal.coe_injective k
  exact hD n _ _ (fun q => (ne_of_gt hij) (e.injective q)) (neg_injective k')

theorem perm_lt (hP : ∀ d n, x0 (ix3 b d n) = (P d n : EReal)) (hD : Distinct P) (n : Fin 256) (i j : Fin 256) (hij : i < j) :
    ((-gap P n (perm x0 b n j) : ℝ) : EReal) < ((-gap P n (perm x0 b n i) : ℝ) : EReal) :=
  lt_of_perm P (perm x0 b n) hD n i j hij (perm_le P x0 b hP n hij)

theorem first_perm (e : Fin 256 ≃ Fin 256) (n : Fin 256) (h : ∀ i j, i < j → ((-gap P n (e j) : ℝ) : EReal) < ((-gap P n (e i) : ℝ) : EReal)) : e 0 = n := by
  obtain ⟨i, hi⟩ := e.surjective n
  rcases Nat.eq_zero_or_pos i.val with h' | h'
  · have hi0 : i = 0 := Fin.ext h'
    rw [hi0] at hi
    exact hi
  · have h0 := EReal.coe_lt_coe_iff.1 (h 0 i h')
    rw [hi, gap_self] at h0
    have := gap_nonneg P n (e 0)
    linarith

theorem perm_zero (hP : ∀ d n, x0 (ix3 b d n) = (P d n : EReal)) (hD : Distinct P) (n : Fin 256) : perm x0 b n 0 = n :=
  first_perm P (perm x0 b n) n (perm_lt P x0 b hP hD n)

/-- The largest feature over the twenty nearest points, in the kernel's words. -/
theorem max_real (w : Fin 3 → ℝ) (c : Fin 64) (hP : ∀ d n, x0 (ix3 b d n) = (P d n : EReal)) (hw : ∀ d, x1 (ix2 d c) = (w d : EReal)) (n : Fin 256) :
    val_main_v29 (F := Ideal) x0 x1 x2 (ix3 b n c)
      = max ((Finset.univ.fold max ⊥ fun t : Fin 20 => (feat P w (perm x0 b n (t.castLE (by decide))) : EReal)) - (feat P w n : EReal) + x2 (ix1 c)) 0 := by
  rw [max_apply]
  simp only [hP, hw, feat_ref P w n, ← perm_apply]
  exact Select.fold_map (k := 19) _ (step_mono (feat P w n) (x2 (ix1 c))) fun t : Fin 20 => (feat P w (perm x0 b n (t.castLE (by decide))) : EReal)

end Ref

section Ker

open Cert.KernelIdeal Cert.KernelIdeal.Gen Cert.KernelIdeal.Block Cert.KernelIdeal.Tail

variable (p : Fin 32) (x0 : Vec Ideal S3x8192 .f32) (x1 : Vec Ideal S32x256x3 .f32) (x3 : Vec Ideal S64x3 .f32)

theorem col_div (n : Fin 256) : (col p n).val / 256 = p.val := by
  show (256 * p.val + n.val) / 256 = p.val
  omega

theorem col_mod (n : Fin 256) : n.val = (col p n).val % 256 := by
  show n.val = (256 * p.val + n.val) % 256
  omega

theorem near_ker (h0 : ∀ d n, x0 (ix2 d (col p n)) = (P d n : EReal)) (h1 : ∀ l d, x1 (ix3 p l d) = (P d l : EReal)) (n l : Fin 256) :
    near x0 x1 l (col p n) = if l = n then ⊥ else ((-gap P n l : ℝ) : EReal) := by
  have hp : (⟨(col p n).val / 256, by omega⟩ : Fin 32) = p := Fin.ext (col_div p n)
  unfold near
  rw [hp]
  simp only [h0, h1, ker_gap P n l, ← col_mod p n, Fin.ext_iff]

theorem fellow_ker (w : Fin 3 → ℝ) (a : Fin 64) (h0 : ∀ d n, x0 (ix2 d (col p n)) = (P d n : EReal)) (hw : ∀ d, x3 (ix2 a d) = (w d : EReal)) (n l : Fin 256) :
    fellow (k0_pay104 x0 x3) a (col p n) l = (feat P w l : EReal) := by
  have hJ : (⟨256 * ((col p n).val / 256) + l, by omega⟩ : Fin 8192) = col p l := Fin.ext (by
    have h := col_div p n
    show 256 * ((col p n).val / 256) + l.val = 256 * p.val + l.val
    omega)
  unfold fellow
  rw [hJ, feature_at]
  simp only [h0, hw]
  exact feat_ker P w l

theorem feature_ker (w : Fin 3 → ℝ) (a : Fin 64) (h0 : ∀ d n, x0 (ix2 d (col p n)) = (P d n : EReal)) (hw : ∀ d, x3 (ix2 a d) = (w d : EReal)) (n : Fin 256) :
    k0_pay104 x0 x3 (ix2 a (col p n)) = (feat P w n : EReal) := by
  rw [feature_at]
  simp only [h0, hw]
  exact feat_ker P w n

end Ker

section Join

open Cert.KernelIdeal Cert.KernelIdeal.Gen Cert.KernelIdeal.Block Cert.KernelIdeal.Tail

variable (c : Dev nD) (i : grid0.Coords)
  (arg1 : Memref sig .tc .vmem S3x8192 .f32) (harg1 : arg1.IsWhole) (arg2 : Memref sig .tc .vmem S32x256x3 .f32) (harg2 : arg2.IsWhole)
  (arg3 : Memref sig .tc .vmem S8192x32 .f32) (harg3 : arg3.IsWhole) (arg4 : Memref sig .tc .vmem S64x3 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S1x1 .f32) (harg9 : arg9.IsWhole) (arg10 : Memref sig .tc .vmem S1x3x32 .f32) (harg10 : arg10.IsWhole)
  (arg11 : Memref sig .tc .vmem S256x8192 .f32) (harg11 : arg11.IsWhole) (arg12 : Memref sig .tc .vmem S64x8192 .f32) (harg12 : arg12.IsWhole)
  (x0 : Vec Ideal S3x8192 .f32) (x1 : Vec Ideal S32x256x3 .f32) (x3 : Vec Ideal S64x3 .f32)
  (x4 : Vec Ideal S64x1 .f32) (x5 : Vec Ideal S128x64 .f32) (x6 : Vec Ideal S128x1 .f32) (x7 : Vec Ideal S128x1 .f32) (x8 : Vec Ideal S1x1 .f32)
  (z0 : FVec Ideal Cert.ReferenceIdeal.S512x3x256 .f32) (z1 : FVec Ideal Cert.ReferenceIdeal.S3x64 .f32) (z2 : FVec Ideal Cert.ReferenceIdeal.S64 .f32)
  (z3 : FVec Ideal Cert.ReferenceIdeal.S64x128 .f32) (z4 : FVec Ideal Cert.ReferenceIdeal.S128 .f32) (z5 : FVec Ideal Cert.ReferenceIdeal.S128x1 .f32)
  (z6 : FVec Ideal Cert.ReferenceIdeal.S1 .f32)

/-- The kernel's weight of a point of a cloud is the reference's. -/
theorem weight_eq (b : Fin 512) (p : Fin 32) (w : Fin 3 → Fin 64 → ℝ) (hD : Distinct P)
    (hz0 : ∀ d n, z0 (ix3 b d n) = (P d n : EReal)) (hz1 : ∀ d a, z1 (ix2 d a) = (w d a : EReal))
    (h0 : ∀ d n, x0 (ix2 d (col p n)) = (P d n : EReal)) (h1 : ∀ l d, x1 (ix3 p l d) = (P d l : EReal))
    (h3 : ∀ a d, x3 (ix2 a d) = (w d a : EReal)) (h4 : ∀ a, x4 (ix2 a 0) = z2 (ix1 a)) (h5 : ∀ a j, x5 (ix2 j a) = z3 (ix2 a j))
    (h6 : ∀ j, x6 (ix2 j 0) = z4 (ix1 j)) (h7 : ∀ j, x7 (ix2 j 0) = z5 (ix2 j 0)) (h8 : x8 (ix2 0 0) = z6 (ix1 0)) (n : Fin 256) :
    kernelRun0_A.sl.r_26 (F := Ideal) c i arg1 harg1 arg2 harg2 arg3 harg3 arg4 harg4 arg5 harg5 arg6 harg6 arg7 harg7 arg8 harg8 arg9 harg9 arg10 harg10 arg11 harg11 arg12 harg12 x0 x1 x3 x4 x5 x6 x7 x8 (ix2 0 (col p n))
      = Cert.ReferenceIdeal.Read.val_main_v45 (F := Ideal) z0 z1 z2 z3 z4 z5 z6 (ix2 b n) := by
  rw [block_weight c i arg1 harg1 arg2 harg2 arg3 harg3 arg4 harg4 arg5 harg5 arg6 harg6 arg7 harg7 arg8 harg8 arg9 harg9 arg10 harg10 arg11 harg11 arg12 harg12 x0 x1 x3 x4 x5 x6 x7 x8
    (fun l => ((-gap P n l : ℝ) : EReal)) (perm z0 b n) n (col p n) (col_mod p n) (fun l => EReal.coe_ne_bot _) (perm_lt P z0 b hz0 hD n)
    (perm_zero P z0 b hz0 hD n) (near_ker P p x0 x1 h0 h1 n)]
  rw [Cert.ReferenceIdeal.Head.weight_at]
  simp only [fun a l => fellow_ker P p x0 x3 (fun d => w d a) a h0 (h3 a) n l, fun a => feature_ker P p x0 x3 (fun d => w d a) a h0 (h3 a) n,
    fun a => max_real P z0 z1 z2 b (fun d => w d a) a hz0 (fun d => hz1 d a) n, h4, h5, h6, h7, h8]

end Join

end Cert.Agree
end
-- ==== Proof.Stored.lean ====
module

public import proofs.«01_k».proof.Proof.Tail

/-! What a block stores is the second half of the kernel applied to the block's weights. -/

@[expose] public section

set_option maxRecDepth 16384

noncomputable section

namespace Cert.KernelIdeal.Tail

open Cert.KernelIdeal Cert.KernelIdeal.Gen Idealize.ShloMosaic Idealize.ShloMosaic.TcCoe Idealize.SL.Sem

variable (c : Dev nD) (i : grid0.Coords)
  (arg1 : Memref sig .tc .vmem S3x8192 .f32) (harg1 : arg1.IsWhole) (arg2 : Memref sig .tc .vmem S32x256x3 .f32) (harg2 : arg2.IsWhole)
  (arg3 : Memref sig .tc .vmem S8192x32 .f32) (harg3 : arg3.IsWhole) (arg4 : Memref sig .tc .vmem S64x3 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S1x1 .f32) (harg9 : arg9.IsWhole) (arg10 : Memref sig .tc .vmem S1x3x32 .f32) (harg10 : arg10.IsWhole)
  (arg11 : Memref sig .tc .vmem S256x8192 .f32) (harg11 : arg11.IsWhole) (arg12 : Memref sig .tc .vmem S64x8192 .f32) (harg12 : arg12.IsWhole)
  (x0 : Vec Ideal S3x8192 .f32) (x1 : Vec Ideal S32x256x3 .f32) (x2 : Vec Ideal S8192x32 .f32) (x3 : Vec Ideal S64x3 .f32)
  (x4 : Vec Ideal S64x1 .f32) (x5 : Vec Ideal S128x64 .f32) (x6 : Vec Ideal S128x1 .f32) (x7 : Vec Ideal S128x1 .f32) (x8 : Vec Ideal S1x1 .f32)

set_option maxHeartbeats 4000000 in
/-- What the block stores, from its weights. -/
theorem out_eq :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = normals (kernelRun0_A.sl.r (F := Ideal) c arg1 harg1 x0)
          (kernelRun0_A.sl.r_26 (F := Ideal) c i arg1 harg1 arg2 harg2 arg3 harg3 arg4 harg4 arg5 harg5 arg6 harg6 arg7 harg7 arg8 harg8 arg9 harg9 arg10 harg10 arg11 harg11 arg12 harg12 x0 x1 x3 x4 x5 x6 x7 x8)
          (View.readAt (Elt Ideal) arg3.view (Rect.unit ![0, 0] S8192x32.size inb_S8192x32_S8192x32_0_0).toLoadRect (harg3.unread x2)) := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  refine (View.canon_cons_unit_lit _ _ _ (by decide)).trans ?_
  rfl

end Cert.KernelIdeal.Tail

end
-- ==== Proof.TailAt.lean ====
module

public import proofs.«01_k».proof.Proof.Tail
public import proofs.«01_k».proof.Proof.Elim

/-! The kernel's elimination at one cloud: on a real positive definite system it gives the Gauss-Jordan solution. -/

@[expose] public section

set_option maxRecDepth 16384

noncomputable section

namespace Cert.KernelIdeal.Tail

open Cert.KernelIdeal Cert.KernelIdeal.Gen Idealize.ShloMosaic Idealize.ShloMosaic.TcCoe Idealize.SL.Sem

/-- A system at one cloud. -/
def at2 (M : Fin 6 → Fin 6 → V) (p : Fin 32) (r c : Fin 6) : EReal := M r c (ix2 0 p)
def at1 (b : Fin 6 → V) (p : Fin 32) (r : Fin 6) : EReal := b r (ix2 0 p)

theorem vstep_at (k : Fin 6) (M : Fin 6 → Fin 6 → V) (p : Fin 32) : at2 (vstep k M) p = Elim.step k (at2 M p) := by
  funext r c
  have h : one (ix2 0 p) = (1 : EReal) := Ideal.ofBits_one_f32
  show M r c (ix2 0 p) - M r k (ix2 0 p) * Ideal.div (one (ix2 0 p)) (M k k (ix2 0 p)) * M k c (ix2 0 p) = _
  rw [h]
  rfl

theorem vrstep_at (k : Fin 6) (M : Fin 6 → Fin 6 → V) (b : Fin 6 → V) (p : Fin 32) :
    at1 (vrstep k M b) p = Elim.rstep k (at2 M p) (at1 b p) := by
  funext r
  have h : one (ix2 0 p) = (1 : EReal) := Ideal.ofBits_one_f32
  show b r (ix2 0 p) - M r k (ix2 0 p) * Ideal.div (one (ix2 0 p)) (M k k (ix2 0 p)) * b k (ix2 0 p) = _
  rw [h]
  rfl

variable (M : Fin 6 → Fin 6 → V) (b : Fin 6 → V)

/-- The system after its first pivots. -/
def vlev : ℕ → (Fin 6 → Fin 6 → V) × (Fin 6 → V)
  | 0 => (M, b)
  | k + 1 => (vstep (Fin.ofNat 6 k) (vlev k).1, vrstep (Fin.ofNat 6 k) (vlev k).1 (vlev k).2)

theorem vlev_at (p : Fin 32) (k : ℕ) :
    at2 (vlev M b k).1 p = (Elim.lev (at2 M p) (at1 b p) k).1 ∧ at1 (vlev M b k).2 p = (Elim.lev (at2 M p) (at1 b p) k).2 := by
  induction k with
  | zero => exact ⟨rfl, rfl⟩
  | succ k ih =>
    refine ⟨(vstep_at _ _ p).trans ?_, (vrstep_at _ _ _ p).trans ?_⟩
    · rw [ih.1]
      rfl
    · rw [ih.1, ih.2]
      rfl

variable (S : Fin 6 → Fin 6 → ℝ) (t : Fin 6 → ℝ)

/-- The unknowns at one cloud. -/
theorem solve_at (p : Fin 32) (hM : ∀ r c, M r c (ix2 0 p) = (S r c : EReal)) (hb : ∀ r, b r (ix2 0 p) = (t r : EReal))
    (hs : ∀ r c, S r c = S c r) (hpos : Solve.PosFrom S 0) :
    x0 M b (ix2 0 p) = (Solve.gjb S t 6 0 : EReal) ∧ x1 M b (ix2 0 p) = (Solve.gjb S t 6 1 : EReal) := by
  have hp : ∀ k (h : k < 6), Solve.schur S k ⟨k, h⟩ ⟨k, h⟩ ≠ 0 := fun k h =>
    (Solve.pivot_pos h (Solve.posFrom S hs hpos k h.le)).ne'
  have e2 : at2 M p = fun r c => (S r c : EReal) := funext fun r => funext fun c => hM r c
  have e1 : at1 b p = fun r => (t r : EReal) := funext hb
  have hA (r c : Fin 6) : at2 (vlev M b r.val).1 p r c = (Solve.schur S r.val r c : EReal) := by
    rw [(vlev_at M b p r.val).1, e2, e1]
    exact (Elim.lev_real S t hp r.val r.isLt.le).1 r c
  have hy (r : Fin 6) : at1 (vlev M b r.val).2 p r = (Solve.rhs S t r.val r : EReal) := by
    rw [(vlev_at M b p r.val).2, e2, e1]
    exact (Elim.lev_real S t hp r.val r.isLt.le).2 r
  have key := Elim.back_real S t hs hpos (fun r => (![x0 M b, x1 M b, x2 M b, x3 M b, x4 M b, x5 M b] : Fin 6 → V) r (ix2 0 p))
    (fun r c => at2 (vlev M b r.val).1 p r c) (fun r => at1 (vlev M b r.val).2 p r) hA hy rfl rfl rfl rfl rfl rfl
  exact ⟨key 0, key 1⟩

end Cert.KernelIdeal.Tail

end
-- ==== Proof.Spec.lean ====
module

public import proofs.«01_k».proof.Proof.Num
public import proofs.«01_k».proof.Proof.Solve
public import Mathlib.Tactic.Ring
public import Mathlib.Tactic.Linarith
public import Mathlib.Tactic.Positivity
public import Mathlib.Tactic.FieldSimp

/-! What both programs compute for one cloud, over the reals: the width, the weights, the least-squares system and the normal. -/

@[expose] public section

noncomputable section

namespace Cert.Spec

variable (X Y Z : Fin 256 → ℝ) (w : Fin 256 → ℝ)

/-- The mean of the absolute coordinates. -/
def width : ℝ := ((∑ n, |X n|) + ∑ n, |Y n|) / 512

/-- The cloud's width, a fixed one for a degenerate cloud. -/
def h : ℝ := if |width X Y| < Num.tol then Num.alt else width X Y

theorem h_ne : h X Y ≠ 0 := by
  unfold h
  split
  · unfold Num.alt
    norm_num
  · rename_i hw
    intro h0
    rw [h0, abs_zero] at hw
    exact hw (by unfold Num.tol; norm_num)

/-- Whether enough points have a weight that counts. -/
def use : Prop := 18 < (Finset.univ.filter fun n => Num.cut < w n).card

instance : Decidable (use w) := by unfold use; infer_instance

/-- The features of a point. -/
def feat (n : Fin 256) : Fin 6 → ℝ := ![X n, Y n, X n * X n, Y n * Y n, X n * Y n, 1]

/-- The features' scales. -/
def sc : Fin 6 → ℝ := ![1 / h X Y, 1 / h X Y, 1 / h X Y * (1 / h X Y), 1 / h X Y * (1 / h X Y), 1 / h X Y * (1 / h X Y), 1]

/-- A weighted or a plain sum over the points. -/
def total (f : Fin 256 → ℝ) : ℝ := if use w then ∑ n, f n * w n else ∑ n, f n

/-- The system's matrix. -/
def gram (a b : Fin 6) : ℝ :=
  total w (fun n => feat X Y n a * feat X Y n b) * (sc X Y a * sc X Y b) + if a = b then Num.eps else 0

/-- The system's right-hand side. -/
def mom (a : Fin 6) : ℝ := total w (fun n => feat X Y n a * Z n) * sc X Y a

theorem gram_symm (a b : Fin 6) : gram X Y w a b = gram X Y w b a := by
  unfold gram
  have e : (fun n => feat X Y n a * feat X Y n b) = fun n => feat X Y n b * feat X Y n a := funext fun n => mul_comm _ _
  rw [e, mul_comm (sc X Y a)]
  simp only [eq_comm]

/-- A point's weight as it counts. -/
def wt (n : Fin 256) : ℝ := if use w then w n else 1

theorem total_eq (f : Fin 256 → ℝ) : total w f = ∑ n, f n * wt w n := by
  unfold total wt
  split <;> simp

theorem gram_pos (hw : ∀ n, 0 ≤ w n) : Solve.PosFrom (gram X Y w) 0 := by
  intro v _ ⟨r, hr⟩
  have hwt (n : Fin 256) : 0 ≤ wt w n := by
    unfold wt
    split
    · exact hw n
    · exact zero_le_one
  have e (a : Fin 6) : ∑ b, v a * gram X Y w a b * v b
      = (∑ b, ∑ n, wt w n * ((v a * sc X Y a * feat X Y n a) * (v b * sc X Y b * feat X Y n b))) + Num.eps * v a ^ 2 := by
    have hb (b : Fin 6) : v a * gram X Y w a b * v b
        = (∑ n, wt w n * ((v a * sc X Y a * feat X Y n a) * (v b * sc X Y b * feat X Y n b))) + if a = b then Num.eps * v a ^ 2 else 0 := by
      unfold gram
      rw [total_eq, mul_add, add_mul, Finset.sum_mul, Finset.mul_sum, Finset.sum_mul]
      congr 1
      · exact Finset.sum_congr rfl fun n _ => by ring
      · by_cases hab : a = b
        · rw [if_pos hab, if_pos hab, ← hab]
          ring
        · rw [if_neg hab, if_neg hab]
          ring
    simp only [hb, Finset.sum_add_distrib, Finset.sum_ite_eq, Finset.mem_univ, if_true]
  simp only [e, Finset.sum_add_distrib]
  have sq : ∑ a, ∑ b, ∑ n, wt w n * ((v a * sc X Y a * feat X Y n a) * (v b * sc X Y b * feat X Y n b))
      = ∑ n, wt w n * (∑ a, v a * sc X Y a * feat X Y n a) ^ 2 := by
    have en (n : Fin 256) : wt w n * (∑ a, v a * sc X Y a * feat X Y n a) ^ 2
        = ∑ a, ∑ b, wt w n * ((v a * sc X Y a * feat X Y n a) * (v b * sc X Y b * feat X Y n b)) := by
      rw [pow_two, Finset.sum_mul_sum, Finset.mul_sum]
      exact Finset.sum_congr rfl fun a _ => Finset.mul_sum _ _ _
    simp only [en]
    rw [Finset.sum_congr rfl fun a _ => Finset.sum_comm]
    exact Finset.sum_comm
  rw [sq]
  refine add_pos_of_nonneg_of_pos (Finset.sum_nonneg fun n _ => mul_nonneg (hwt n) (sq_nonneg _)) ?_
  refine Finset.sum_pos' (fun a _ => mul_nonneg (by unfold Num.eps; norm_num) (sq_nonneg _)) ⟨r, Finset.mem_univ r, ?_⟩
  exact mul_pos (by unfold Num.eps; norm_num) (by positivity)

/-- The fitted slopes, scaled by the width. -/
def sol : Fin 6 → ℝ := Solve.gjb (gram X Y w) (mom X Y Z w) 6

def nx : ℝ := -sol X Y Z w 0 * (1 / h X Y)
def ny : ℝ := -sol X Y Z w 1 * (1 / h X Y)

/-- The length of the normal before it is scaled, squared. -/
def sq : ℝ := nx X Y Z w * nx X Y Z w + ny X Y Z w * ny X Y Z w + 1

theorem sq_pos : 0 < sq X Y Z w := by
  unfold sq
  nlinarith [mul_self_nonneg (nx X Y Z w), mul_self_nonneg (ny X Y Z w)]

/-- The unit normal. -/
def normal : Fin 3 → ℝ := ![nx X Y Z w * (1 / √(sq X Y Z w)), ny X Y Z w * (1 / √(sq X Y Z w)), 1 / √(sq X Y Z w)]

end Cert.Spec

end
-- ==== Proof.TailSpec.lean ====
module

public import proofs.«01_k».proof.Proof.TailAt
public import proofs.«01_k».proof.Proof.Sums
public import proofs.«01_k».proof.Proof.Spec

/-! What the kernel's second half computes for one cloud is the fitted normal. -/

@[expose] public section

set_option maxRecDepth 16384

noncomputable section

namespace Cert.Num

/-- A sum of reals as extended reals. -/
theorem coe_sum {ι : Type} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

/-- A count as a sum of indicators. -/
theorem coe_count {ι : Type} (s : Finset ι) (P : ι → Prop) [DecidablePred P] :
    ∑ n ∈ s, (if P n then (1 : EReal) else 0) = (((s.filter P).card : ℝ) : EReal) := by
  rw [Finset.card_filter]
  push_cast
  rw [coe_sum]
  exact Finset.sum_congr rfl fun n _ => by split <;> rfl

end Cert.Num

namespace Cert.KernelIdeal.Tail

open Cert.KernelIdeal Cert.KernelIdeal.Gen Idealize.ShloMosaic Idealize.ShloMosaic.TcCoe Idealize.SL.Sem

theorem row_at (s : FVec Ideal S57x32 .f32) (r : ℕ) (h : r < 57) (p : Fin 32) : row s r h (ix2 0 p) = s (ix2 ⟨r, h⟩ p) := by
  unfold row extractStridedSlice
  refine congrArg s ?_
  funext a
  match a with
  | ⟨0, _⟩ => exact Fin.ext (Nat.add_zero r)
  | ⟨1, _⟩ => exact Fin.ext (Nat.zero_add _)

variable (v : FVec Ideal S3x8192 .f32) (w : FVec Ideal S1x8192 .f32) (o : FVec Ideal S8192x32 .f32)
  (p : Fin 32) (X Y Z W : Fin 256 → ℝ)
  (hx : ∀ n, v (ix2 0 (col p n)) = (X n : EReal)) (hy : ∀ n, v (ix2 1 (col p n)) = (Y n : EReal)) (hz : ∀ n, v (ix2 2 (col p n)) = (Z n : EReal))
  (hw : ∀ n, w (ix2 0 (col p n)) = (W n : EReal))
  (ho : ∀ J p, o (ix2 J p) = if J.val / 256 = p.val then 1 else 0)

include hx hy in
theorem feat_at (n : Fin 256) (a : Fin 6) : feat v (col p n) a = (Spec.feat X Y n a : EReal) := by
  unfold feat Spec.feat
  rw [hx, hy]
  fin_cases a
  all_goals simp

include hx hy hw ho in
/-- The weighted or plain sum of a product of two features. -/
theorem sums_prod (a b : Fin 6) (h : a ≤ b) :
    sums v w o (ix2 (((place a b).castLE (by decide) : Fin 27).castLE (by decide)) p) = ((∑ n, Spec.feat X Y n a * Spec.feat X Y n b : ℝ) : EReal)
      ∧ sums v w o (ix2 ((((place a b).castLE (by decide) : Fin 27).natAdd 27).castLE (by decide)) p)
        = ((∑ n, Spec.feat X Y n a * Spec.feat X Y n b * W n : ℝ) : EReal) := by
  rw [Num.coe_sum, Num.coe_sum, sums_at v w o ho, sums_at v w o ho]
  refine ⟨Finset.sum_congr rfl fun n _ => ?_, Finset.sum_congr rfl fun n _ => ?_⟩
  · refine (prod_at v w a b h (col p n)).trans ?_
    rw [feat_at v p X Y hx hy, feat_at v p X Y hx hy, EReal.coe_mul]
  · rw [weighted_at, hw]
    have e := prod_at v w a b h (col p n)
    rw [feat_at v p X Y hx hy, feat_at v p X Y hx hy] at e
    rw [EReal.coe_mul, EReal.coe_mul, ← e]
    rfl

include hx hy hz hw ho in
/-- The weighted or plain sum of a feature and the height. -/
theorem sums_moment (a : Fin 6) :
    sums v w o (ix2 ((a.natAdd 21).castLE (by decide)) p) = ((∑ n, Spec.feat X Y n a * Z n : ℝ) : EReal)
      ∧ sums v w o (ix2 (((a.natAdd 21 : Fin 27).natAdd 27).castLE (by decide)) p)
        = ((∑ n, Spec.feat X Y n a * Z n * W n : ℝ) : EReal) := by
  rw [Num.coe_sum, Num.coe_sum, sums_at v w o ho, sums_at v w o ho]
  refine ⟨Finset.sum_congr rfl fun n _ => ?_, Finset.sum_congr rfl fun n _ => ?_⟩
  · rw [moment_at v w a, feat_at v p X Y hx hy, hz, EReal.coe_mul]
  · rw [weighted_at, hw]
    have e := moment_at v w a (col p n)
    rw [feat_at v p X Y hx hy, hz] at e
    rw [EReal.coe_mul, EReal.coe_mul, ← e]

include hw ho in
/-- Where the weights are used. -/
theorem use_at : use v w o (ix2 0 p) = BitVec.ofBool (decide (Spec.use W)) := by
  have e : use v w o = cmpf .ogt (row (sums v w o) 54 (by decide)) (broadcast S1x32 (Scalar.ofBits .f32 0x41900000#32)) := rfl
  rw [e]
  show BitVec.ofBool (decide (Ideal.ofBits .f32 0x41900000#32 < row (sums v w o) 54 (by decide) (ix2 0 p))) = _
  rw [row_at, sums_at v w o ho, Num.n18]
  have h : ∑ n, stat v w (ix2 ⟨54, by decide⟩ (col p n)) = (((Finset.univ.filter fun n => Num.cut < W n).card : ℝ) : EReal) := by
    rw [← Num.coe_count]
    refine Finset.sum_congr rfl fun n _ => ?_
    refine (count_at v w (col p n)).trans ?_
    rw [hw, Num.cut_eq]
    simp only [EReal.coe_lt_coe_iff]
  rw [h]
  have e2 : (((18 : ℝ) : EReal) < (((Finset.univ.filter fun n => Num.cut < W n).card : ℝ) : EReal)) ↔ Spec.use W := by
    rw [EReal.coe_lt_coe_iff]
    unfold Spec.use
    exact_mod_cast Iff.rfl
  simp only [e2]

include hx hy ho in
/-- The reciprocal of the width. -/
theorem hinv_at : hinv v w o (ix2 0 p) = ((1 / Spec.h X Y : ℝ) : EReal) := by
  have e : hinv v w o = divf (broadcast S1x32 (Scalar.ofBits .f32 0x3F800000#32))
      (select (cmpf .olt (absf (divf (addf (row (sums v w o) 55 (by decide)) (row (sums v w o) 56 (by decide))) (broadcast S1x32 (Scalar.ofBits .f32 0x44000000#32)))) (broadcast S1x32 (Scalar.ofBits .f32 0x38D1B717#32)))
        (broadcast S1x32 (Scalar.ofBits .f32 0x3DCCCCCD#32))
        (divf (addf (row (sums v w o) 55 (by decide)) (row (sums v w o) 56 (by decide))) (broadcast S1x32 (Scalar.ofBits .f32 0x44000000#32)))) := rfl
  have h0 : divf (addf (row (sums v w o) 55 (by decide)) (row (sums v w o) 56 (by decide))) (broadcast S1x32 (Scalar.ofBits .f32 0x44000000#32)) (ix2 0 p)
      = (Spec.width X Y : EReal) := by
    show Ideal.div (row (sums v w o) 55 (by decide) (ix2 0 p) + row (sums v w o) 56 (by decide) (ix2 0 p)) (Ideal.ofBits .f32 0x44000000#32) = _
    have h5 : row (sums v w o) 55 (by decide) (ix2 0 p) = ((∑ n, |X n| : ℝ) : EReal) := by
      rw [row_at, sums_at v w o ho, Num.coe_sum]
      refine Finset.sum_congr rfl fun n _ => ((abs_at v w (col p n)).1).trans ?_
      rw [hx]
      rfl
    have h6 : row (sums v w o) 56 (by decide) (ix2 0 p) = ((∑ n, |Y n| : ℝ) : EReal) := by
      rw [row_at, sums_at v w o ho, Num.coe_sum]
      refine Finset.sum_congr rfl fun n _ => ((abs_at v w (col p n)).2).trans ?_
      rw [hy]
      rfl
    rw [h5, h6, Num.n512, ← EReal.coe_add, Elim.div_real _ (by norm_num)]
    rfl
  rw [e]
  generalize divf (addf (row (sums v w o) 55 (by decide)) (row (sums v w o) 56 (by decide))) (broadcast S1x32 (Scalar.ofBits .f32 0x44000000#32)) = d at h0
  show Ideal.div (Ideal.ofBits .f32 0x3F800000#32) (Scalar.select (BitVec.ofBool (decide (FloatOps.absf (F := Ideal) (φ := .f32) (d (ix2 0 p)) < Ideal.ofBits .f32 0x38D1B717#32))) (Ideal.ofBits .f32 0x3DCCCCCD#32) (d (ix2 0 p))) = _
  rw [h0, Num.tol_eq, Num.alt_eq, Ideal.ofBits_one_f32]
  have h1 : Scalar.select (BitVec.ofBool (decide (FloatOps.absf (F := Ideal) (φ := .f32) (Spec.width X Y : EReal) < (Num.tol : EReal)))) (Num.alt : EReal) (Spec.width X Y : EReal)
      = (Spec.h X Y : EReal) := by
    have ha : FloatOps.absf (F := Ideal) (φ := .f32) (Spec.width X Y : EReal) = ((|Spec.width X Y| : ℝ) : EReal) := rfl
    rw [ha]
    simp only [EReal.coe_lt_coe_iff]
    unfold Spec.h
    by_cases hc : |Spec.width X Y| < Num.tol
    · simp [hc, Scalar.select]
    · simp [hc, Scalar.select]
  rw [h1]
  exact Elim.div_real 1 (Spec.h_ne X Y)

include hx hy ho in
/-- The features' scales. -/
theorem scale_at (a : Fin 6) : scale (hinv v w o) a (ix2 0 p) = (Spec.sc X Y a : EReal) := by
  have h := hinv_at v w o p X Y hx hy ho
  have h2 : mulf (hinv v w o) (hinv v w o) (ix2 0 p) = ((1 / Spec.h X Y * (1 / Spec.h X Y) : ℝ) : EReal) := by
    show hinv v w o (ix2 0 p) * hinv v w o (ix2 0 p) = _
    rw [h, EReal.coe_mul]
  fin_cases a
  · exact h
  · exact h
  · exact h2
  · exact h2
  · exact h2
  · exact Ideal.ofBits_one_f32

include hw ho in
/-- The sum that counts. -/
theorem pick_at (j : Fin 27) (f : Fin 256 → ℝ)
    (h1 : sums v w o (ix2 (j.castLE (by decide)) p) = ((∑ n, f n : ℝ) : EReal))
    (h2 : sums v w o (ix2 ((j.natAdd 27).castLE (by decide)) p) = ((∑ n, f n * W n : ℝ) : EReal)) :
    pick (sums v w o) (use v w o) j (ix2 0 p) = (Spec.total W f : EReal) := by
  show Scalar.select (use v w o (ix2 0 p)) (row (sums v w o) (27 + j.val) _ (ix2 0 p)) (row (sums v w o) j.val _ (ix2 0 p)) = _
  rw [use_at v w o p W hw ho, row_at, row_at]
  have e1 : sums v w o (ix2 ⟨j.val, by omega⟩ p) = _ := h1
  have e2 : sums v w o (ix2 ⟨27 + j.val, by omega⟩ p) = _ := h2
  rw [e1, e2]
  unfold Spec.total
  by_cases hc : Spec.use W
  · simp [hc, Scalar.select]
  · simp [hc, Scalar.select]

include hx hy hw ho in
/-- The system's matrix. -/
theorem mat_at (a b : Fin 6) : matK v w o a b (ix2 0 p) = (Spec.gram X Y W a b : EReal) := by
  have key (a b : Fin 6) (h : a ≤ b) :
      mulf (pick (sums v w o) (use v w o) ((place a b).castLE (by decide))) (mulf (scale (hinv v w o) a) (scale (hinv v w o) b)) (ix2 0 p)
        = ((Spec.total W (fun n => Spec.feat X Y n a * Spec.feat X Y n b) * (Spec.sc X Y a * Spec.sc X Y b) : ℝ) : EReal) := by
    have hp := pick_at v w o p W hw ho ((place a b).castLE (by decide)) (fun n => Spec.feat X Y n a * Spec.feat X Y n b)
      (sums_prod v w o p X Y W hx hy hw ho a b h).1 (sums_prod v w o p X Y W hx hy hw ho a b h).2
    generalize pick (sums v w o) (use v w o) ((place a b).castLE (by decide)) = P at hp
    have ha := scale_at v w o p X Y hx hy ho a
    have hb := scale_at v w o p X Y hx hy ho b
    generalize scale (hinv v w o) a = A at ha
    generalize scale (hinv v w o) b = B at hb
    show P (ix2 0 p) * (A (ix2 0 p) * B (ix2 0 p)) = _
    rw [hp, ha, hb, EReal.coe_mul, EReal.coe_mul]
  unfold matK mat
  by_cases hab : a = b
  · subst hab
    rw [if_pos rfl]
    have k := key a a le_rfl
    generalize mulf (pick (sums v w o) (use v w o) ((place a a).castLE (by decide))) (mulf (scale (hinv v w o) a) (scale (hinv v w o) a)) = P at k
    show P (ix2 0 p) + Ideal.ofBits .f32 0x358637BD#32 = _
    rw [k, Num.eps_eq, ← EReal.coe_add]
    unfold Spec.gram
    rw [if_pos rfl]
  · have hne : a.val ≠ b.val := fun h => hab (Fin.ext h)
    rw [if_neg hne]
    by_cases hlt : a.val < b.val
    · rw [if_pos hlt, key a b (Fin.le_def.2 hlt.le)]
      unfold Spec.gram
      rw [if_neg hab, add_zero]
    · rw [if_neg hlt, key b a (Fin.le_def.2 (by omega)), Spec.gram_symm]
      unfold Spec.gram
      rw [if_neg (Ne.symm hab), add_zero]

include hx hy hz hw ho in
/-- The system's right-hand side. -/
theorem vec_at (a : Fin 6) : vecK v w o a (ix2 0 p) = (Spec.mom X Y Z W a : EReal) := by
  show pick (sums v w o) (use v w o) (a.natAdd 21) (ix2 0 p) * scale (hinv v w o) a (ix2 0 p) = _
  rw [scale_at v w o p X Y hx hy ho, pick_at v w o p W hw ho _ _ (sums_moment v w o p X Y Z W hx hy hz hw ho a).1 (sums_moment v w o p X Y Z W hx hy hz hw ho a).2, ← EReal.coe_mul]
  rfl

include hx hy hz hw ho in
/-- The normal the kernel gives a cloud. -/
theorem normals_at (hW : ∀ n, 0 ≤ W n) (r : Fin 3) : normals v w o (ix3 0 r p) = (Spec.normal X Y Z W r : EReal) := by
  obtain ⟨s0, s1⟩ := solve_at (matK v w o) (vecK v w o) (Spec.gram X Y W) (Spec.mom X Y Z W) p
    (mat_at v w o p X Y W hx hy hw ho) (vec_at v w o p X Y Z W hx hy hz hw ho) (Spec.gram_symm X Y W) (Spec.gram_pos X Y W hW)
  have hh := hinv_at v w o p X Y hx hy ho
  unfold normals
  have e0 : mulf (subf (broadcast S1x32 (Scalar.ofBits .f32 0x00000000#32)) (x0 (matK v w o) (vecK v w o))) (hinv v w o) (ix2 0 p) = (Spec.nx X Y Z W : EReal) := by
    show (Ideal.ofBits .f32 0x00000000#32 - x0 (matK v w o) (vecK v w o) (ix2 0 p)) * hinv v w o (ix2 0 p) = _
    rw [s0, hh, Ideal.ofBits_zero_f32, zero_sub, ← EReal.coe_neg, ← EReal.coe_mul]
    rfl
  have e1 : (Ideal.ofBits .f32 0x00000000#32 - x1 (matK v w o) (vecK v w o) (ix2 0 p)) * hinv v w o (ix2 0 p) = (Spec.ny X Y Z W : EReal) := by
    rw [s1, hh, Ideal.ofBits_zero_f32, zero_sub, ← EReal.coe_neg, ← EReal.coe_mul]
    rfl
  generalize mulf (subf (broadcast S1x32 (Scalar.ofBits .f32 0x00000000#32)) (x0 (matK v w o) (vecK v w o))) (hinv v w o) = N at e0
  generalize x1 (matK v w o) (vecK v w o) = B at e1
  generalize hinv v w o = H at e1
  have er : Ideal.rsqrt (N (ix2 0 p) * N (ix2 0 p) + (Ideal.ofBits .f32 0x00000000#32 - B (ix2 0 p)) * H (ix2 0 p) * ((Ideal.ofBits .f32 0x00000000#32 - B (ix2 0 p)) * H (ix2 0 p)) + Ideal.ofBits .f32 0x3F800000#32)
      = ((1 / √(Spec.sq X Y Z W) : ℝ) : EReal) := by
    rw [e0, e1, Ideal.ofBits_one_f32, ← EReal.coe_mul, ← EReal.coe_mul, ← EReal.coe_add, ← EReal.coe_one, ← EReal.coe_add]
    have hp := Spec.sq_pos X Y Z W
    unfold Spec.sq at hp ⊢
    rw [Ideal.rsqrt_coe, if_neg (not_lt.2 hp.le), if_neg hp.ne', one_div]
  rw [Ideal.ofBits_zero_f32] at e1 er
  rw [Ideal.ofBits_one_f32] at er
  fin_cases r
  all_goals dsimp only [Fin.zero_eta, Fin.mk_one, Fin.reduceFinMk, Fin.isValue]
  all_goals pointwise [k0_pay1]
  · rw [er, e0, ← EReal.coe_mul]
    rfl
  · rw [er, e1, ← EReal.coe_mul]
    rfl
  · rw [er]
    rfl

end Cert.KernelIdeal.Tail

end
-- ==== Proof.Gj.lean ====
module

public import proofs.«01_k».proof.Proof.Gen.ReferenceIdeal.Read
public import Idealize.ShloMosaic.Lib.Pointwise
public import proofs.«01_k».proof.Proof.Elim

/-! The reference's solve: six pivots of one elimination. -/

@[expose] public section

set_option maxRecDepth 16384

noncomputable section

namespace Cert.ReferenceIdeal.Fit

open Cert.ReferenceIdeal Cert.ReferenceIdeal.Gen Cert.ReferenceIdeal.Read Idealize.ShloMosaic Idealize.ShloMosaic.TcCoe Idealize.SL.Sem

theorem rowOK (k : Fin 6) : S512x6x6.Slices ![0, k.val, 0] S512x1x6 := by revert k; decide
theorem pivOK (k : Fin 6) : S512x6x6.Slices ![0, k.val, k.val] S512x1x1 := by revert k; decide
theorem colOK (k : Fin 6) : S512x6x6.Slices ![0, 0, k.val] S512x6x1 := by revert k; decide
theorem rhsOK (k : Fin 6) : S512x6x1.Slices ![0, k.val, 0] S512x1x1 := by revert k; decide

/-- Which row is the pivot's. -/
def pivotRow (k : Fin 6) : IVec S1x6x1 1 :=
  cmpi .eq (broadcastInDim S1x6x1 ![1] bcast_S6_S1x6x1_1 (iotaInDim S6 32 0))
    (broadcastInDim S1x6x1 ![] bcast_S_S1x6x1 (constantI S_ 32 (BitVec.ofNat 32 k.val)))

theorem pivotRow_at (k r : Fin 6) : pivotRow k (ix3 0 r 0) = BitVec.ofBool (decide (r = k)) := by
  pointwise [pivotRow]
  revert k r
  decide

/-- One pivot of the system. -/
def jstep (k : Fin 6) (A : FVec Ideal S512x6x6 .f32) : FVec Ideal S512x6x6 .f32 :=
  let q : FVec Ideal S512x1x6 .f32 := Host.divf (extractStridedSlice S512x1x6 ![0, k.val, 0] A (rowOK k))
    (broadcastInDim S512x1x6 ![0, 1, 2] bcast_S512x1x1_S512x1x6_0_1_2 (extractStridedSlice S512x1x1 ![0, k.val, k.val] A (pivOK k)))
  select (broadcastInDim S512x6x6 ![0, 1, 2] bcast_S1x6x1_S512x6x6_0_1_2 (pivotRow k))
    (broadcastInDim S512x6x6 ![0, 1, 2] bcast_S512x1x6_S512x6x6_0_1_2 q)
    (subf A (mulf (broadcastInDim S512x6x6 ![0, 1, 2] bcast_S512x6x1_S512x6x6_0_1_2 (extractStridedSlice S512x6x1 ![0, 0, k.val] A (colOK k)))
      (broadcastInDim S512x6x6 ![0, 1, 2] bcast_S512x1x6_S512x6x6_0_1_2 q)))

/-- … and of its right-hand sides. -/
def jrstep (k : Fin 6) (A : FVec Ideal S512x6x6 .f32) (B : FVec Ideal S512x6x1 .f32) : FVec Ideal S512x6x1 .f32 :=
  let q : FVec Ideal S512x1x1 .f32 := Host.divf (extractStridedSlice S512x1x1 ![0, k.val, 0] B (rhsOK k))
    (extractStridedSlice S512x1x1 ![0, k.val, k.val] A (pivOK k))
  select (broadcastInDim S512x6x1 ![0, 1, 2] bcast_S1x6x1_S512x6x1_0_1_2 (pivotRow k))
    (broadcastInDim S512x6x1 ![0, 1, 2] bcast_S512x1x1_S512x6x1_0_1_2 q)
    (subf B (mulf (extractStridedSlice S512x6x1 ![0, 0, k.val] A (colOK k))
      (broadcastInDim S512x6x1 ![0, 1, 2] bcast_S512x1x1_S512x6x1_0_1_2 q)))

theorem zadd (k : Fin 6) (h : k.val + 0 < 6) : (⟨k.val + 0, h⟩ : Fin 6) = k := rfl

theorem jstep_at (k : Fin 6) (A : FVec Ideal S512x6x6 .f32) (b : Fin 512) (r c : Fin 6) :
    jstep k A (ix3 b r c) = Elim.gstep k (fun r c => A (ix3 b r c)) r c := by
  have hr := pivotRow_at k r
  generalize hP : pivotRow k = P at hr
  unfold jstep
  rw [hP]
  pointwise
  rw [hr]
  unfold Elim.gstep
  by_cases h : r = k
  · simp [h, Scalar.select]
  · simp [h, Scalar.select]

theorem jrstep_at (k : Fin 6) (A : FVec Ideal S512x6x6 .f32) (B : FVec Ideal S512x6x1 .f32) (b : Fin 512) (r : Fin 6) :
    jrstep k A B (ix3 b r 0) = Elim.grstep k (fun r c => A (ix3 b r c)) (fun r => B (ix3 b r 0)) r := by
  have hr := pivotRow_at k r
  generalize hP : pivotRow k = P at hr
  unfold jrstep
  rw [hP]
  pointwise
  rw [hr]
  unfold Elim.grstep
  by_cases h : r = k
  · simp [h, Scalar.select]
  · simp [h, Scalar.select]

section
variable (x0 : FVec Ideal S512x3x256 .f32) (x1 : FVec Ideal S3x64 .f32) (x2 : FVec Ideal S64 .f32) (x3 : FVec Ideal S64x128 .f32)
  (x4 : FVec Ideal S128 .f32) (x5 : FVec Ideal S128x1 .f32) (x6 : FVec Ideal S1 .f32)

/-- The system's and the right-hand sides' values after the first `k` pivots, in one cloud. -/
def At (b : Fin 512) (M : Fin 6 → Fin 6 → EReal) (y : Fin 6 → EReal) (k : ℕ) (A : FVec Ideal S512x6x6 .f32) (B : FVec Ideal S512x6x1 .f32) : Prop :=
  (∀ r c, A (ix3 b r c) = (Elim.glev M y k).1 r c) ∧ ∀ r, B (ix3 b r 0) = (Elim.glev M y k).2 r

theorem At.next {b : Fin 512} {M : Fin 6 → Fin 6 → EReal} {y : Fin 6 → EReal} {A A' : FVec Ideal S512x6x6 .f32} {B B' : FVec Ideal S512x6x1 .f32}
    (k : Fin 6) (hA : A' = jstep k A) (hB : B' = jrstep k A B) (h : At b M y k.val A B) : At b M y (k.val + 1) A' B' := by
  obtain ⟨h1, h2⟩ := h
  have e : Fin.ofNat 6 k.val = k := Elim.ofNat_eq k.isLt
  refine ⟨fun r c => ?_, fun r => ?_⟩
  · rw [hA, jstep_at]
    simp only [h1]
    show _ = Elim.gstep (Fin.ofNat 6 k.val) _ r c
    rw [e]
  · rw [hB, jrstep_at]
    simp only [h1, h2]
    show _ = Elim.grstep (Fin.ofNat 6 k.val) _ _ r
    rw [e]

/-- The reference's solution of one cloud's system. -/
theorem solved (b : Fin 512) (M : Fin 6 → Fin 6 → EReal) (y : Fin 6 → EReal)
    (h1 : ∀ r c, val_main_v121 (F := Ideal) x0 x1 x2 x3 x4 x5 x6 (ix3 b r c) = M r c)
    (h2 : ∀ r, val_main_v123 (F := Ideal) x0 x1 x2 x3 x4 x5 x6 (ix3 b r 0) = y r) (r : Fin 6) :
    val_main_v251 (F := Ideal) x0 x1 x2 x3 x4 x5 x6 (ix3 b r 0) = (Elim.glev M y 6).2 r := by
  have s0 : At b M y 0 (val_main_v121 (F := Ideal) x0 x1 x2 x3 x4 x5 x6) (val_main_v123 (F := Ideal) x0 x1 x2 x3 x4 x5 x6) := ⟨h1, h2⟩
  have s1 : At b M y 1 (val_main_v140 (F := Ideal) x0 x1 x2 x3 x4 x5 x6) (val_main_v146 (F := Ideal) x0 x1 x2 x3 x4 x5 x6) := s0.next 0 rfl rfl
  have s2 : At b M y 2 (val_main_v161 (F := Ideal) x0 x1 x2 x3 x4 x5 x6) (val_main_v167 (F := Ideal) x0 x1 x2 x3 x4 x5 x6) := s1.next 1 rfl rfl
  have s3 : At b M y 3 (val_main_v182 (F := Ideal) x0 x1 x2 x3 x4 x5 x6) (val_main_v188 (F := Ideal) x0 x1 x2 x3 x4 x5 x6) := s2.next 2 rfl rfl
  have s4 : At b M y 4 (val_main_v203 (F := Ideal) x0 x1 x2 x3 x4 x5 x6) (val_main_v209 (F := Ideal) x0 x1 x2 x3 x4 x5 x6) := s3.next 3 rfl rfl
  have s5 : At b M y 5 (val_main_v224 (F := Ideal) x0 x1 x2 x3 x4 x5 x6) (val_main_v230 (F := Ideal) x0 x1 x2 x3 x4 x5 x6) := s4.next 4 rfl rfl
  exact (s5.next (A' := val_main_v245 (F := Ideal) x0 x1 x2 x3 x4 x5 x6) (B' := val_main_v251 (F := Ideal) x0 x1 x2 x3 x4 x5 x6) 5 rfl rfl).2 r
end

end Cert.ReferenceIdeal.Fit

end
-- ==== Proof.RefFit.lean ====
module

public import proofs.«01_k».proof.Proof.Gj
public import proofs.«01_k».proof.Proof.Spec
public import proofs.«01_k».proof.Proof.TailSpec
public import Idealize.ShloMosaic.Lib.IndicatorCount

/-! The reference's second half for one cloud: the width, the count, the system and its matrix. -/

@[expose] public section

set_option maxRecDepth 16384

noncomputable section

namespace Cert.Num

theorem abs_real (x : ℝ) : Idealize.ShloMosaic.FloatOps.absf (F := Idealize.ShloMosaic.Ideal) (φ := .f32) (x : EReal) = ((|x| : ℝ) : EReal) := rfl

theorem above (x y : EReal) : Idealize.ShloMosaic.FloatOps.cmpf (F := Idealize.ShloMosaic.Ideal) (φ := .f32) .ogt x y = BitVec.ofBool (decide (y < x)) := rfl

end Cert.Num

namespace Cert.ReferenceIdeal.Fit

open Cert.ReferenceIdeal Cert.ReferenceIdeal.Gen Cert.ReferenceIdeal.Read Idealize.ShloMosaic Idealize.ShloMosaic.TcCoe Idealize.SL.Sem

variable (x0 : FVec Ideal S512x3x256 .f32) (x1 : FVec Ideal S3x64 .f32) (x2 : FVec Ideal S64 .f32) (x3 : FVec Ideal S64x128 .f32)
  (x4 : FVec Ideal S128 .f32) (x5 : FVec Ideal S128x1 .f32) (x6 : FVec Ideal S1 .f32)
  (b : Fin 512) (X Y Z W : Fin 256 → ℝ)
  (hx : ∀ n, x0 (ix3 b 0 n) = (X n : EReal)) (hy : ∀ n, x0 (ix3 b 1 n) = (Y n : EReal)) (hz : ∀ n, x0 (ix3 b 2 n) = (Z n : EReal))
  (hw : ∀ n, val_main_v45 (F := Ideal) x0 x1 x2 x3 x4 x5 x6 (ix2 b n) = (W n : EReal))

include hx in
theorem x_at (n : Fin 256) : val_main_v48 (F := Ideal) x0 (ix3 b n 0) = (X n : EReal) := by
  pointwise [val_main_v48, val_main_v47, val_main_v46]
  exact hx n

include hy in
theorem y_at (n : Fin 256) : val_main_v51 (F := Ideal) x0 (ix3 b n 0) = (Y n : EReal) := by
  pointwise [val_main_v51, val_main_v50, val_main_v49]
  exact hy n

include hz in
theorem z_at (n : Fin 256) : val_main_v54 (F := Ideal) x0 (ix3 b n 0) = (Z n : EReal) := by
  pointwise [val_main_v54, val_main_v53, val_main_v52]
  exact hz n

include hx hy in
theorem mean_at : val_main_v75 (F := Ideal) x0 (ix2 b 0) = (Spec.width X Y : EReal) := by
  have ex := x_at x0 b X hx
  have ey := y_at x0 b Y hy
  pointwise [val_main_v75, val_main_v74, val_main_v73, val_main_v72, val_main_v71, val_main_v70, val_main_v69, val_main_v68, val_main_v67, val_main_v66, val_main_v65, val_main_cst_9, val_main_cst_10, val_main_cst_11, val_main_cst_12, val_main_cst_13]
  simp only [ex, ey, Num.abs_real]
  rw [← Num.coe_sum, ← Num.coe_sum, Num.n256, Num.two, Elim.div_real _ (by norm_num), Elim.div_real _ (by norm_num), ← EReal.coe_add,
    Elim.div_real _ (by norm_num)]
  unfold Spec.width
  exact congrArg _ (by ring)

include hx hy in
theorem h_at : val_main_v79 (F := Ideal) x0 (ix2 b 0) = (Spec.h X Y : EReal) := by
  have e := mean_at x0 b X Y hx hy
  pointwise [val_main_v79, val_main_v78, val_main_v77, val_main_v76, val_main_call3_v1, val_main_call3_v0, val_main_cst_14, val_main_cst_15]
  rw [e, Num.abs_real, Num.tol_eq]
  unfold Spec.h
  simp only [EReal.coe_lt_coe_iff]
  split
  · exact Num.alt_eq
  · rfl

theorem mask_at (i : S512x256x1.Idx) : val_main_v58 (F := Ideal) x0 x1 x2 x3 x4 x5 x6 i
    = (BitVec.ofBool (decide ((Num.cut : EReal) < val_main_v55 (F := Ideal) x0 x1 x2 x3 x4 x5 x6 i))).setWidth 32 := by
  have e : val_main_v56 (F := Ideal) i = (Num.cut : EReal) := Num.cut_eq
  rw [val_main_v58_apply, val_main_v57_apply, e]
  exact congrArg _ (Num.above _ _)

theorem fiber (i : S512x256x1.Idx) : reducesTo_S512x256x1_S512x1_d1.drop i = ix2 b 0 ↔ ∃ n, i = ix3 b n 0 := by
  constructor
  · intro h
    refine ⟨i (1 : Fin 3), funext fun a => ?_⟩
    match a with
    | ⟨0, _⟩ => exact Fin.ext (congrArg Fin.val (congrFun h (0 : Fin 2)))
    | ⟨1, _⟩ => rfl
    | ⟨2, _⟩ => exact Fin.ext (congrArg Fin.val (congrFun h (1 : Fin 2)))
  · rintro ⟨n, rfl⟩
    funext a
    match a with
    | ⟨0, _⟩ => rfl
    | ⟨1, _⟩ => rfl

include hw in
theorem shown_at (n : Fin 256) : val_main_v55 (F := Ideal) x0 x1 x2 x3 x4 x5 x6 (ix3 b n 0) = (W n : EReal) := by
  rw [← hw n]
  unfold val_main_v55
  generalize val_main_v45 (F := Ideal) x0 x1 x2 x3 x4 x5 x6 = y
  pointwise

theorem more (N : ℕ) (h : N ≤ 256) : IntOp.cmpi .sgt (BitVec.ofNat 32 N) 18#32 = BitVec.ofBool (decide (18 < N)) := by
  unfold IntOp.cmpi
  refine congrArg BitVec.ofBool ?_
  show (18#32).slt (BitVec.ofNat 32 N) = _
  rw [BitVec.slt, BitVec.toInt_eq_toNat_of_lt (x := BitVec.ofNat 32 N) (by rw [BitVec.toNat_ofNat]; omega), BitVec.toNat_ofNat, Nat.mod_eq_of_lt (by omega)]
  refine decide_eq_decide.2 ?_
  show (18 : ℤ) < N ↔ _
  omega

include hw in
theorem tally_at : val_main_v59 (F := Ideal) x0 x1 x2 x3 x4 x5 x6 (ix2 b 0) = BitVec.ofNat 32 (Finset.univ.filter fun n => Num.cut < W n).card := by
  have ew := shown_at x0 x1 x2 x3 x4 x5 x6 b W hw
  have e := mask_at x0 x1 x2 x3 x4 x5 x6
  unfold val_main_v59
  generalize val_main_v58 (F := Ideal) x0 x1 x2 x3 x4 x5 x6 = m at e ⊢
  generalize val_main_v55 (F := Ideal) x0 x1 x2 x3 x4 x5 x6 = y at e ew
  rw [Host.reduce_eq_fold, funext e, show val_main_c_6 (F := Ideal) (Shape.Idx.first h_S_) = 0#32 from rfl, IndicatorCount.fold_addi_setWidth_eq_card]
  refine congrArg _ ?_
  symm
  refine Finset.card_bij (fun n _ => ix3 b n 0) ?_ ?_ ?_
  · intro n hn
    rw [Finset.mem_filter] at hn
    rw [Finset.mem_filter, Finset.mem_filter, fiber, ew]
    exact ⟨⟨Finset.mem_univ _, n, rfl⟩, by simp [hn.2]⟩
  · intro n _ n' _ h
    exact congrFun h (1 : Fin 3)
  · intro i hi
    rw [Finset.mem_filter, Finset.mem_filter, fiber] at hi
    obtain ⟨⟨_, n, rfl⟩, h⟩ := hi
    refine ⟨n, ?_, rfl⟩
    rw [ew] at h
    by_cases hn : Num.cut < W n
    · exact Finset.mem_filter.2 ⟨Finset.mem_univ _, hn⟩
    · simp [hn] at h

include hw in
theorem count_at : val_main_v61 (F := Ideal) x0 x1 x2 x3 x4 x5 x6 (ix2 b 0) = BitVec.ofBool (decide (Spec.use W)) := by
  have ec := tally_at x0 x1 x2 x3 x4 x5 x6 b W hw
  unfold val_main_v61
  generalize val_main_v59 (F := Ideal) x0 x1 x2 x3 x4 x5 x6 = m at ec ⊢
  show IntOp.cmpi .sgt (m (ix2 b 0)) 18#32 = _
  rw [ec, more _ ((Finset.card_le_univ _).trans (by simp))]
  rfl

include hw in
theorem wt_at (n : Fin 256) : val_main_v64 (F := Ideal) x0 x1 x2 x3 x4 x5 x6 (ix3 b n 0) = (Spec.wt W n : EReal) := by
  have e := count_at x0 x1 x2 x3 x4 x5 x6 b W hw
  pointwise [val_main_v64, val_main_v63, val_main_v62, val_main_call2_v0, val_main_cst_8]
  rw [e, hw]
  unfold Spec.wt
  by_cases hc : Spec.use W <;> simp [hc, Scalar.select]

include hx hy in
theorem feat_at (n : Fin 256) (a : Fin 6) : val_main_v90 (F := Ideal) x0 (ix3 b n a) = ((Spec.feat X Y n a * Spec.sc X Y a : ℝ) : EReal) := by
  have ex := x_at x0 b X hx
  have ey := y_at x0 b Y hy
  have eh := h_at x0 b X Y hx hy
  have xs (n : Fin 256) : val_main_v82 (F := Ideal) x0 (ix3 b n 0) = ((X n * (1 / Spec.h X Y) : ℝ) : EReal) := by
    pointwise [val_main_v82, val_main_v81, val_main_v80]
    rw [ex, eh]
    refine (Elim.div_real _ (Spec.h_ne X Y)).trans ?_
    rw [mul_one_div]
  have ys (n : Fin 256) : val_main_v85 (F := Ideal) x0 (ix3 b n 0) = ((Y n * (1 / Spec.h X Y) : ℝ) : EReal) := by
    pointwise [val_main_v85, val_main_v84, val_main_v83]
    rw [ey, eh]
    refine (Elim.div_real _ (Spec.h_ne X Y)).trans ?_
    rw [mul_one_div]
  unfold Spec.feat Spec.sc
  fin_cases a
  all_goals dsimp only [Fin.zero_eta, Fin.mk_one, Fin.reduceFinMk, Fin.isValue, Matrix.cons_val]
  · pointwise [val_main_v90]
    exact xs n
  · pointwise [val_main_v90]
    exact ys n
  · pointwise [val_main_v90, val_main_v86]
    rw [xs, ← EReal.coe_mul]
    exact congrArg _ (by ring)
  · pointwise [val_main_v90, val_main_v87]
    rw [ys, ← EReal.coe_mul]
    exact congrArg _ (by ring)
  · pointwise [val_main_v90, val_main_v88]
    rw [xs, ys, ← EReal.coe_mul]
    exact congrArg _ (by ring)
  · pointwise [val_main_v90, val_main_v89, val_main_cst_16]
    simp

include hx hy in
theorem scale_at (a : Fin 6) : val_main_v95 (F := Ideal) x0 (ix2 b a) = (Spec.sc X Y a : EReal) := by
  have eh := h_at x0 b X Y hx hy
  have hn := Spec.h_ne X Y
  have one (x : ℝ) (h : x ≠ 0) : Ideal.div 1 (x : EReal) = ((1 / x : ℝ) : EReal) := by
    rw [← EReal.coe_one, Elim.div_real _ h]
  unfold Spec.sc
  have e2 : 1 / Spec.h X Y * (1 / Spec.h X Y) = 1 / (Spec.h X Y * Spec.h X Y) := by
    field_simp
  fin_cases a
  all_goals dsimp only [Fin.zero_eta, Fin.mk_one, Fin.reduceFinMk, Fin.isValue, Matrix.cons_val]
  all_goals pointwise [val_main_v95, val_main_v94, val_main_cst_18, val_main_v93, val_main_v92, val_main_v91, val_main_cst_17]
  all_goals first
    | (rw [eh]; exact one _ hn)
    | (rw [eh, ← EReal.coe_mul, one _ (mul_ne_zero hn hn), e2])
    | exact (one 1 one_ne_zero).trans (congrArg _ (one_div_one))

theorem eye_at (r c : Fin 6) : val_main_v102 (F := Ideal) (ix2 r c) = if r = c then 1 else 0 := by
  pointwise [val_main_v102, val_main_v101, val_main_v100, val_main_v99, val_main_v98, val_main_v97, val_main_c_19]
  have h : ∀ r c : Fin 6, IntOp.cmpi .eq (IntOp.addi (BitVec.ofNat 32 r.val) 0#32) (BitVec.ofNat 32 c.val) = BitVec.ofBool (decide (r = c)) := by decide
  rw [h]
  by_cases hc : r = c <;> simp [hc, FloatOps.uitofp]

theorem eye_at' (r c : Fin 6) : val_main_v116 (F := Ideal) (ix2 r c) = if r = c then 1 else 0 := eye_at r c

include hx hy hw in
theorem gram_at (r c : Fin 6) : val_main_v121 (F := Ideal) x0 x1 x2 x3 x4 x5 x6 (ix3 b r c) = (Spec.gram X Y W r c : EReal) := by
  have e := eye_at' r c
  have ew := wt_at x0 x1 x2 x3 x4 x5 x6 b W hw
  have ef := feat_at x0 b X Y hx hy
  pointwise [val_main_v121, val_main_v120, val_main_v119, val_main_v118, val_main_v117, val_main_v110, val_main_v109, val_main_v108, val_main_v107, val_main_cst_21]
  rw [e, Num.eps_eq]
  simp only [ef, ew, ← EReal.coe_mul]
  rw [← Num.coe_sum]
  have ee : (Num.eps : EReal) * (if r = c then 1 else 0) = ((if r = c then Num.eps else 0 : ℝ) : EReal) := by
    split <;> simp
  rw [ee, ← EReal.coe_add]
  unfold Spec.gram
  rw [Spec.total_eq, Finset.sum_mul]
  exact congrArg _ (congrArg (· + _) (Finset.sum_congr rfl fun n _ => by ring))

include hx hy hz hw in
theorem mom_at (r : Fin 6) : val_main_v123 (F := Ideal) x0 x1 x2 x3 x4 x5 x6 (ix3 b r 0) = (Spec.mom X Y Z W r : EReal) := by
  have ew := wt_at x0 x1 x2 x3 x4 x5 x6 b W hw
  have ef := feat_at x0 b X Y hx hy
  have ez := z_at x0 b Z hz
  pointwise [val_main_v123, val_main_v122, val_main_v107]
  simp only [ef, ew, ez, ← EReal.coe_mul]
  rw [← Num.coe_sum]
  unfold Spec.mom
  rw [Spec.total_eq, Finset.sum_mul]
  exact congrArg _ (Finset.sum_congr rfl fun n _ => by ring)

include hx hy hz hw in
theorem slope_at (hW : ∀ n, 0 ≤ W n) (r : Fin 6) : val_main_v252 (F := Ideal) x0 x1 x2 x3 x4 x5 x6 (ix3 b r 0) = ((Spec.sc X Y r * Spec.sol X Y Z W r : ℝ) : EReal) := by
  have es := scale_at x0 b X Y hx hy
  have ee := eye_at
  have hp : ∀ k (h : k < 6), Solve.schur (Spec.gram X Y W) k ⟨k, h⟩ ⟨k, h⟩ ≠ 0 := fun k h =>
    (Solve.pivot_pos h (Solve.posFrom _ (Spec.gram_symm X Y W) (Spec.gram_pos X Y W hW) k h.le)).ne'
  have eb (r : Fin 6) : val_main_v251 (F := Ideal) x0 x1 x2 x3 x4 x5 x6 (ix3 b r 0) = (Spec.sol X Y Z W r : EReal) :=
    (solved x0 x1 x2 x3 x4 x5 x6 b _ _ (gram_at x0 x1 x2 x3 x4 x5 x6 b X Y W hx hy hw) (mom_at x0 x1 x2 x3 x4 x5 x6 b X Y Z W hx hy hz hw) r).trans
      ((Elim.glev_real _ _ hp 6 le_rfl).2 r)
  pointwise [val_main_v252, val_main_v106, val_main_v105, val_main_v104, val_main_v103, val_main_v96]
  simp only [es, ee, eb, mul_ite, mul_one, mul_zero, ite_mul, zero_mul, Finset.sum_ite_eq, Finset.mem_univ, if_true]
  rw [EReal.coe_mul]

include hx hy hz hw in
/-- The normal the reference gives a cloud. -/
theorem normal_at (hW : ∀ n, 0 ≤ W n) (r : Fin 3) : val_main_v260 (F := Ideal) x0 x1 x2 x3 x4 x5 x6 (ix2 b r) = (Spec.normal X Y Z W r : EReal) := by
  have es := slope_at x0 x1 x2 x3 x4 x5 x6 b X Y Z W hx hy hz hw hW
  have en (r : Fin 3) : val_main_v257 (F := Ideal) x0 x1 x2 x3 x4 x5 x6 (ix2 b r) = ((![Spec.nx X Y Z W, Spec.ny X Y Z W, 1] r : ℝ) : EReal) := by
    fin_cases r
    all_goals dsimp only [Fin.zero_eta, Fin.mk_one, Fin.reduceFinMk, Fin.isValue, Matrix.cons_val]
    · pointwise [val_main_v257, val_main_v255, val_main_v254, val_main_v253]
      refine (congrArg Neg.neg (es 0)).trans ((EReal.coe_neg _).symm.trans ?_)
      unfold Spec.nx Spec.sc
      simp [mul_comm]
    · pointwise [val_main_v257, val_main_v255, val_main_v254, val_main_v253]
      refine (congrArg Neg.neg (es 1)).trans ((EReal.coe_neg _).symm.trans ?_)
      unfold Spec.ny Spec.sc
      simp [mul_comm]
    · pointwise [val_main_v257, val_main_v256, val_main_cst_34]
      simp
  pointwise [val_main_v260, val_main_v259, val_main_v258, val_main_call16_v2, val_main_call16_v1, val_main_call16_v0, val_main_call16_cst]
  simp only [en, ← EReal.coe_mul]
  rw [← Num.coe_sum, Ideal.sqrt_coe]
  have hs : (∑ x : Fin 3, ![Spec.nx X Y Z W, Spec.ny X Y Z W, 1] x * ![Spec.nx X Y Z W, Spec.ny X Y Z W, 1] x) = Spec.sq X Y Z W := by
    rw [Fin.sum_univ_three]
    unfold Spec.sq
    simp
  rw [hs, if_neg (not_lt.2 (Spec.sq_pos X Y Z W).le), Elim.div_real _ (Real.sqrt_pos.2 (Spec.sq_pos X Y Z W)).ne']
  unfold Spec.normal
  refine congrArg _ ?_
  fin_cases r
  all_goals simp [div_eq_mul_inv]

end Cert.ReferenceIdeal.Fit

end
-- ==== Proof.Block.lean ====
module

public import proofs.«01_k».proof.Proof.Agree
public import proofs.«01_k».proof.Proof.Stored
public import proofs.«01_k».proof.Proof.TailSpec
public import proofs.«01_k».proof.Proof.RefFit

/-! One block of the kernel: what it stores is the reference's normals of its clouds. -/

@[expose] public section

set_option maxRecDepth 16384

noncomputable section

namespace Cert.Agree

open Idealize.ShloMosaic Idealize.ShloMosaic.TcCoe Idealize.SL.Sem
open Cert.KernelIdeal Cert.KernelIdeal.Gen Cert.KernelIdeal.Block Cert.KernelIdeal.Tail

variable (c : Dev nD) (i : grid0.Coords)
  (arg1 : Memref sig .tc .vmem S3x8192 .f32) (harg1 : arg1.IsWhole) (arg2 : Memref sig .tc .vmem S32x256x3 .f32) (harg2 : arg2.IsWhole)
  (arg3 : Memref sig .tc .vmem S8192x32 .f32) (harg3 : arg3.IsWhole) (arg4 : Memref sig .tc .vmem S64x3 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S1x1 .f32) (harg9 : arg9.IsWhole) (arg10 : Memref sig .tc .vmem S1x3x32 .f32) (harg10 : arg10.IsWhole)
  (arg11 : Memref sig .tc .vmem S256x8192 .f32) (harg11 : arg11.IsWhole) (arg12 : Memref sig .tc .vmem S64x8192 .f32) (harg12 : arg12.IsWhole)
  (x0 : Vec Ideal S3x8192 .f32) (x1 : Vec Ideal S32x256x3 .f32) (x2 : Vec Ideal S8192x32 .f32) (x3 : Vec Ideal S64x3 .f32)
  (x4 : Vec Ideal S64x1 .f32) (x5 : Vec Ideal S128x64 .f32) (x6 : Vec Ideal S128x1 .f32) (x7 : Vec Ideal S128x1 .f32) (x8 : Vec Ideal S1x1 .f32)
  (z0 : FVec Ideal Cert.ReferenceIdeal.S512x3x256 .f32) (z1 : FVec Ideal Cert.ReferenceIdeal.S3x64 .f32) (z2 : FVec Ideal Cert.ReferenceIdeal.S64 .f32)
  (z3 : FVec Ideal Cert.ReferenceIdeal.S64x128 .f32) (z4 : FVec Ideal Cert.ReferenceIdeal.S128 .f32) (z5 : FVec Ideal Cert.ReferenceIdeal.S128x1 .f32)
  (z6 : FVec Ideal Cert.ReferenceIdeal.S1 .f32)

/-- The reference's weights are real numbers, and not negative. -/
theorem weights_real (b : Fin 512) : ∃ W : Fin 256 → ℝ, (∀ n, 0 ≤ W n)
    ∧ ∀ n, Cert.ReferenceIdeal.Read.val_main_v45 (F := Ideal) z0 z1 z2 z3 z4 z5 z6 (ix2 b n) = (W n : EReal) := by
  have h : ∀ n : Fin 256, ∃ r : ℝ, 0 ≤ r ∧ Cert.ReferenceIdeal.Read.val_main_v45 (F := Ideal) z0 z1 z2 z3 z4 z5 z6 (ix2 b n) = (r : EReal) := by
    intro n
    rw [Cert.ReferenceIdeal.Head.weight_at]
    exact Weight.logistic_real _
  choose W hW hw using h
  exact ⟨W, hW, hw⟩

/-- What a block stores for a cloud is the reference's normal of it. -/
theorem block_normal (b : Fin 512) (p : Fin 32) (P : Fin 3 → Fin 256 → ℝ) (w : Fin 3 → Fin 64 → ℝ) (hD : Distinct P)
    (hz0 : ∀ d n, z0 (ix3 b d n) = (P d n : EReal)) (hz1 : ∀ d a, z1 (ix2 d a) = (w d a : EReal))
    (h0 : ∀ d n, x0 (ix2 d (col p n)) = (P d n : EReal)) (h1 : ∀ l d, x1 (ix3 p l d) = (P d l : EReal))
    (h2 : ∀ (J : Fin 8192) (q : Fin 32), x2 (ix2 J q) = if J.val / 256 = q.val then (1 : EReal) else 0)
    (h3 : ∀ a d, x3 (ix2 a d) = (w d a : EReal)) (h4 : ∀ a, x4 (ix2 a 0) = z2 (ix1 a)) (h5 : ∀ a j, x5 (ix2 j a) = z3 (ix2 a j))
    (h6 : ∀ j, x6 (ix2 j 0) = z4 (ix1 j)) (h7 : ∀ j, x7 (ix2 j 0) = z5 (ix2 j 0)) (h8 : x8 (ix2 0 0) = z6 (ix1 0)) (r : Fin 3) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix3 0 r p)
      = Cert.ReferenceIdeal.Read.val_main_v260 (F := Ideal) z0 z1 z2 z3 z4 z5 z6 (ix2 b r) := by
  obtain ⟨W, hW, hw⟩ := weights_real z0 z1 z2 z3 z4 z5 z6 b
  rw [out_eq, r_eq, View.readAt_full arg3.view _ inb_S8192x32_S8192x32_0_0, harg3.read_unread]
  refine (normals_at _ _ _ p (P 0) (P 1) (P 2) W (fun n => h0 0 n) (fun n => h0 1 n) (fun n => h0 2 n) (fun n => ?_) h2 hW r).trans
    (Cert.ReferenceIdeal.Fit.normal_at z0 z1 z2 z3 z4 z5 z6 b (P 0) (P 1) (P 2) W (fun n => hz0 0 n) (fun n => hz0 1 n) (fun n => hz0 2 n) hw hW r).symm
  refine Eq.trans ?_ (hw n)
  exact weight_eq P c i arg1 harg1 arg2 harg2 arg3 harg3 arg4 harg4 arg5 harg5 arg6 harg6 arg7 harg7 arg8 harg8 arg9 harg9 arg10 harg10 arg11 harg11 arg12 harg12
    x0 x1 x3 x4 x5 x6 x7 x8 z0 z1 z2 z3 z4 z5 z6 b p w hD hz0 hz1 h0 h1 h3 h4 h5 h6 h7 h8 n

end Cert.Agree
end
-- ==== Proof.Host.lean ====
module

public import proofs.«01_k».proof.Proof.Gen.KernelIdeal.Frame.Runs
public import Idealize.ShloMosaic.Lib.StableHlo.ReadAt
public import Idealize.ShloMosaic.Lib.Tactic.WordOmega
public import Idealize.ShloMosaic.Lib.Pointwise
public import Idealize.ShloMosaic.Lib.Claim

/-! The arrays the kernel is launched on, at an index of each. -/

@[expose] public section

set_option maxRecDepth 16384

noncomputable section

namespace Cert.KernelIdeal.Launch

open Cert.KernelIdeal Cert.KernelIdeal.Gen Idealize.ShloMosaic Idealize.ShloMosaic.TcCoe Idealize.SL.Sem

variable (m : (ℓ : Loc nD τ sig) → Buf (Elt Ideal) ℓ) (c : Dev nD)

/-- The quotient a column's number gives: its cloud. -/
theorem quotient (J : Fin 8192) :
    Scalar.select
      (IntOp.andi
        (IntOp.cmpi CmpIPredicate.ne (if BitVec.ofNat 32 J.val = 0 then (0 : BitVec 32) else if (BitVec.ofNat 32 J.val).msb = true then -1 else 1)
          (if 256#32 = 0 then (0 : BitVec 32) else if BitVec.msb 256#32 = true then -1 else 1))
        (IntOp.cmpi CmpIPredicate.ne (IntOp.remsi ArithUnit.host (BitVec.ofNat 32 J.val) 256#32) 0#32))
      (IntOp.subi (IntOp.divsi ArithUnit.host (BitVec.ofNat 32 J.val) 256#32) 1#32)
      (IntOp.divsi ArithUnit.host (BitVec.ofNat 32 J.val) 256#32) = BitVec.ofNat 32 (J.val / 256) := by
  revert J
  decide +kernel

/-- One where a column's cloud is the one asked for, zero elsewhere. -/
theorem flag (k p : Fin 32) : FloatOps.uitofp (F := Ideal) FTy.f32 (IntOp.cmpi CmpIPredicate.eq (BitVec.ofNat 32 k.val) (BitVec.ofNat 32 p.val)) = if k.val = p.val then (1 : EReal) else 0 := by
  have h : IntOp.cmpi CmpIPredicate.eq (BitVec.ofNat 32 k.val) (BitVec.ofNat 32 p.val) = if k.val = p.val then 1#1 else 0#1 := by
    revert k p
    decide +kernel
  rw [h]
  by_cases e : k.val = p.val
  · rw [if_pos e, if_pos e]
    show (((1#1 : BitVec 1).toNat : ℝ) : EReal) = 1
    norm_num
  · rw [if_neg e, if_neg e]
    show (((0#1 : BitVec 1).toNat : ℝ) : EReal) = 0
    norm_num

theorem points_at (d : Fin 3) (b : Fin 512) (n : Fin 256) (J : Fin 131072) (hJ : J.val = 256 * b.val + n.val) :
    (V m c main_v1 : S3x131072.Idx → EReal) (ix2 d J) = (m ((c.tc : Thread nD τ).loc main_arg0) : S512x3x256.Idx → EReal) (ix3 b d n) := by
  unfold V
  after_reads_at
  have hb : (⟨J.val / 256, by omega⟩ : Fin 512) = b := Fin.ext (by show J.val / 256 = b.val; omega)
  have hn : (⟨J.val % 256, by omega⟩ : Fin 256) = n := Fin.ext (by show J.val % 256 = n.val; omega)
  exact congrArg₂ (fun (b : Fin 512) (n : Fin 256) => (m ((c.tc : Thread nD τ).loc main_arg0) : S512x3x256.Idx → EReal) (ix3 b d n)) hb hn

theorem clouds_at (b : Fin 512) (n : Fin 256) (d : Fin 3) :
    (V m c main_v2 : S512x256x3.Idx → EReal) (ix3 b n d) = (m ((c.tc : Thread nD τ).loc main_arg0) : S512x3x256.Idx → EReal) (ix3 b d n) := by
  unfold V
  after_reads_at

theorem member_at (J : Fin 8192) (p : Fin 32) :
    (V m c main_v11 : S8192x32.Idx → EReal) (ix2 J p) = if J.val / 256 = p.val then (1 : EReal) else 0 := by
  unfold V
  after_reads_at
  have h := quotient J
  have this := (congrArg (fun w => FloatOps.uitofp (F := Ideal) FTy.f32 (IntOp.cmpi CmpIPredicate.eq w (BitVec.ofNat 32 p.val))) h).trans (flag ⟨J.val / 256, by omega⟩ p)
  exact this

theorem first_at (a : Fin 64) (d : Fin 3) :
    (V m c main_v12 : S64x3.Idx → EReal) (ix2 a d) = (m ((c.tc : Thread nD τ).loc main_arg1) : S3x64.Idx → EReal) (ix2 d a) := by
  unfold V
  after_reads_at

theorem first_bias_at (a : Fin 64) :
    (V m c main_v13 : S64x1.Idx → EReal) (ix2 a 0) = (m ((c.tc : Thread nD τ).loc main_arg2) : S64.Idx → EReal) (ix1 a) := by
  unfold V
  after_reads_at

theorem second_at (j : Fin 128) (a : Fin 64) :
    (V m c main_v14 : S128x64.Idx → EReal) (ix2 j a) = (m ((c.tc : Thread nD τ).loc main_arg3) : S64x128.Idx → EReal) (ix2 a j) := by
  unfold V
  after_reads_at

theorem second_bias_at (j : Fin 128) :
    (V m c main_v15 : S128x1.Idx → EReal) (ix2 j 0) = (m ((c.tc : Thread nD τ).loc main_arg4) : S128.Idx → EReal) (ix1 j) := by
  unfold V
  after_reads_at

theorem last_bias_at :
    (V m c main_v16 : S1x1.Idx → EReal) (ix2 0 0) = (m ((c.tc : Thread nD τ).loc main_arg6) : S1.Idx → EReal) (ix1 0) := by
  unfold V
  after_reads_at

end Cert.KernelIdeal.Launch
end
-- ==== Proof.Windows.lean ====
module

public import proofs.«01_k».proof.Proof.Gen.KernelIdeal.Value
public import Idealize.ShloMosaic.Lib.Pipeline.ValueKit
public import Idealize.ShloMosaic.Lib.Pointwise
public import Idealize.ShloMosaic.Lib.Claim

/-! The blocks a point of the grid reads and writes, at an index of each. -/

@[expose] public section

set_option maxRecDepth 16384

noncomputable section

namespace Cert.KernelIdeal.Launch

open Cert.KernelIdeal Cert.KernelIdeal.Gen Idealize.ShloMosaic Idealize.ShloMosaic.TcCoe Idealize.SL.Sem

theorem place0 : ∀ t : Fin cfg0.N, win0_0.index t 0 = 0 ∧ win0_0.index t 1 = t.val :=
  (by decide +kernel : ∀ t : Fin grid0.N, win0_0.index t 0 = 0 ∧ win0_0.index t 1 = t.val)

theorem place1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem place9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

theorem fixed2 : ∀ t : Fin cfg0.N, win0_2.index t 0 = 0 ∧ win0_2.index t 1 = 0 :=
  (by decide +kernel : ∀ t : Fin grid0.N, win0_2.index t 0 = 0 ∧ win0_2.index t 1 = 0)
theorem fixed3 : ∀ t : Fin cfg0.N, win0_3.index t 0 = 0 ∧ win0_3.index t 1 = 0 :=
  (by decide +kernel : ∀ t : Fin grid0.N, win0_3.index t 0 = 0 ∧ win0_3.index t 1 = 0)
theorem fixed4 : ∀ t : Fin cfg0.N, win0_4.index t 0 = 0 ∧ win0_4.index t 1 = 0 :=
  (by decide +kernel : ∀ t : Fin grid0.N, win0_4.index t 0 = 0 ∧ win0_4.index t 1 = 0)
theorem fixed5 : ∀ t : Fin cfg0.N, win0_5.index t 0 = 0 ∧ win0_5.index t 1 = 0 :=
  (by decide +kernel : ∀ t : Fin grid0.N, win0_5.index t 0 = 0 ∧ win0_5.index t 1 = 0)
theorem fixed6 : ∀ t : Fin cfg0.N, win0_6.index t 0 = 0 ∧ win0_6.index t 1 = 0 :=
  (by decide +kernel : ∀ t : Fin grid0.N, win0_6.index t 0 = 0 ∧ win0_6.index t 1 = 0)
theorem fixed7 : ∀ t : Fin cfg0.N, win0_7.index t 0 = 0 ∧ win0_7.index t 1 = 0 :=
  (by decide +kernel : ∀ t : Fin grid0.N, win0_7.index t 0 = 0 ∧ win0_7.index t 1 = 0)
theorem fixed8 : ∀ t : Fin cfg0.N, win0_8.index t 0 = 0 ∧ win0_8.index t 1 = 0 :=
  (by decide +kernel : ∀ t : Fin grid0.N, win0_8.index t 0 = 0 ∧ win0_8.index t 1 = 0)

variable (m : (ℓ : Loc nD τ sig) → Buf (Elt Ideal) ℓ) (c : Dev nD) (t : Fin cfg0.N)

theorem in0 (d : Fin 3) (j : Fin 8192) (J : Fin 131072) (hJ : J.val = 8192 * t.val + j.val) :
    (iblk m c 0 t : S3x8192.Idx → EReal) (ix2 d j) = (V m c main_v1 : S3x131072.Idx → EReal) (ix2 d J) := by
  have i0 := (place0 t).1
  have i1 := (place0 t).2
  unfold iblk View.read
  refine congrArg (V m c main_v1 : S3x131072.Idx → EReal) ?_
  blk_ext [i0, i1]

theorem in1 (p : Fin 32) (n : Fin 256) (d : Fin 3) (b : Fin 512) (hb : b.val = 32 * t.val + p.val) :
    (iblk m c 1 t : S32x256x3.Idx → EReal) (ix3 p n d) = (V m c main_v2 : S512x256x3.Idx → EReal) (ix3 b n d) := by
  have i0 := (place1 t).1
  have i1 := (place1 t).2.1
  have i2 := (place1 t).2.2
  unfold iblk View.read
  refine congrArg (V m c main_v2 : S512x256x3.Idx → EReal) ?_
  blk_ext [i0, i1, i2]

theorem in2 (j : Fin 8192) (p : Fin 32) : (iblk m c 2 t : S8192x32.Idx → EReal) (ix2 j p) = (V m c main_v11 : S8192x32.Idx → EReal) (ix2 j p) := by
  have i0 := (fixed2 t).1
  have i1 := (fixed2 t).2
  unfold iblk View.read
  refine congrArg (V m c main_v11 : S8192x32.Idx → EReal) ?_
  blk_ext [i0, i1]

theorem in3 (j : Fin 64) (p : Fin 3) : (iblk m c 3 t : S64x3.Idx → EReal) (ix2 j p) = (V m c main_v12 : S64x3.Idx → EReal) (ix2 j p) := by
  have i0 := (fixed3 t).1
  have i1 := (fixed3 t).2
  unfold iblk View.read
  refine congrArg (V m c main_v12 : S64x3.Idx → EReal) ?_
  blk_ext [i0, i1]

theorem in4 (j : Fin 64) : (iblk m c 4 t : S64x1.Idx → EReal) (ix2 j 0) = (V m c main_v13 : S64x1.Idx → EReal) (ix2 j 0) := by
  have i0 := (fixed4 t).1
  have i1 := (fixed4 t).2
  unfold iblk View.read
  refine congrArg (V m c main_v13 : S64x1.Idx → EReal) ?_
  blk_ext [i0, i1]

theorem in5 (j : Fin 128) (p : Fin 64) : (iblk m c 5 t : S128x64.Idx → EReal) (ix2 j p) = (V m c main_v14 : S128x64.Idx → EReal) (ix2 j p) := by
  have i0 := (fixed5 t).1
  have i1 := (fixed5 t).2
  unfold iblk View.read
  refine congrArg (V m c main_v14 : S128x64.Idx → EReal) ?_
  blk_ext [i0, i1]

theorem in6 (j : Fin 128) : (iblk m c 6 t : S128x1.Idx → EReal) (ix2 j 0) = (V m c main_v15 : S128x1.Idx → EReal) (ix2 j 0) := by
  have i0 := (fixed6 t).1
  have i1 := (fixed6 t).2
  unfold iblk View.read
  refine congrArg (V m c main_v15 : S128x1.Idx → EReal) ?_
  blk_ext [i0, i1]

theorem in7 (j : Fin 128) : (iblk m c 7 t : S128x1.Idx → EReal) (ix2 j 0) = (m ((c.tc : Thread nD τ).loc main_arg5) : S128x1.Idx → EReal) (ix2 j 0) := by
  have i0 := (fixed7 t).1
  have i1 := (fixed7 t).2
  unfold iblk View.read
  refine Eq.trans ?_ (congrFun (V_main_arg5 m c) (ix2 j 0))
  refine congrArg (V m c main_arg5 : S128x1.Idx → EReal) ?_
  blk_ext [i0, i1]

theorem in8 : (iblk m c 8 t : S1x1.Idx → EReal) (ix2 0 0) = (V m c main_v16 : S1x1.Idx → EReal) (ix2 0 0) := by
  have i0 := (fixed8 t).1
  have i1 := (fixed8 t).2
  unfold iblk View.read
  refine congrArg (V m c main_v16 : S1x1.Idx → EReal) ?_
  blk_ext [i0, i1]

end Cert.KernelIdeal.Launch
end
-- ==== Proof.Tame.lean ====
module

public import proofs.«01_k».proof.Pre_tame
public import Idealize.ShloMosaic.Lib.Pointwise
public import Idealize.ShloMosaic.Lib.ReduceAll
public import proofs.«01_k».proof.Proof.Num

/-! What the precondition says: the points and the first layer's weights are real numbers, and no two points of a cloud are equally far from a third. -/

@[expose] public section

set_option maxRecDepth 16384

noncomputable section

namespace Cert.Pre_tame

open Idealize.ShloMosaic

instance facts : Facts where
  bcast_S512x3x256_S512x3x256x1_0_1_2 := by decide
  bcast_S512x3x256_S512x3x1x256_0_1_3 := by decide
  bcast_S512x3x256x1_S512x3x256x256_0_1_2_3 := by decide
  bcast_S512x3x1x256_S512x3x256x256_0_1_2_3 := by decide
  reducesTo_S512x3x256x256_S512x256x256_d1 := by decide
  h_S_ := by decide
  bcast_S512x256x256_S512x256x256x1_0_1_2 := by decide
  bcast_S512x256x256_S512x256x1x256_0_1_3 := by decide
  bcast_S512x256x256x1_S512x256x256x256_0_1_2_3 := by decide
  bcast_S512x256x1x256_S512x256x256x256_0_1_2_3 := by decide
  bcast_S256_S256x1_0 := by decide
  bcast_S256_S1x256_1 := by decide
  bcast_S256x1_S256x256_0_1 := by decide
  bcast_S1x256_S256x256_0_1 := by decide
  bcast_S256x256_S1x1x256x256_2_3 := by decide
  bcast_S1x1x256x256_S512x256x256x256_0_1_2_3 := by decide
  bcast_S_S512x3x256 := by decide
  bcast_S_S3x64 := by decide
  reducesTo_S512x256x256x256_S512x256_d2_3 := by decide

variable (x0 : FVec Ideal S512x3x256 .f32) (x1 : FVec Ideal S3x64 .f32) (x2 : FVec Ideal S64 .f32) (x3 : FVec Ideal S64x128 .f32)
  (x4 : FVec Ideal S128 .f32) (x5 : FVec Ideal S128x1 .f32) (x6 : FVec Ideal S1 .f32)

theorem first_at (b : Fin 512) (d : Fin 3) (n : Fin 256) :
    (fn (F := Ideal) x0 x1 x2 x3 x4 x5 x6).1 (ix3 b d n) = FloatOps.cmpf (F := Ideal) (φ := .f32) .olt (FloatOps.hostAbsf (F := Ideal) (φ := .f32) (x0 (ix3 b d n))) (FloatOps.ofBits (F := Ideal) .f32 0x7F800000#32) := by
  pointwise [fn, fn_part1]

theorem second_at (d : Fin 3) (c : Fin 64) :
    (fn (F := Ideal) x0 x1 x2 x3 x4 x5 x6).2.1 (ix2 d c) = FloatOps.cmpf (F := Ideal) (φ := .f32) .olt (FloatOps.hostAbsf (F := Ideal) (φ := .f32) (x1 (ix2 d c))) (FloatOps.ofBits (F := Ideal) .f32 0x7F800000#32) := by
  pointwise [fn, fn_part1]

/-- The squared distance of two points of a cloud. -/
def dist (b : Fin 512) (i j : Fin 256) : EReal := ∑ d : Fin 3, (x0 (ix3 b d i) - x0 (ix3 b d j)) * (x0 (ix3 b d i) - x0 (ix3 b d j))

section Terms

variable {F : FTy → Type} [FloatOps F] (z0 : FVec F S512x3x256 .f32) (z1 : FVec F S3x64 .f32) (z2 : FVec F S64 .f32) (z3 : FVec F S64x128 .f32)
  (z4 : FVec F S128 .f32) (z5 : FVec F S128x1 .f32) (z6 : FVec F S1 .f32)

open Facts

/-- The differences of the coordinates of two points. -/
def gaps : FVec F S512x3x256x256 .f32 :=
  subf (broadcastInDim S512x3x256x256 ![0, 1, 2, 3] bcast_S512x3x256x1_S512x3x256x256_0_1_2_3 (broadcastInDim S512x3x256x1 ![0, 1, 2] bcast_S512x3x256_S512x3x256x1_0_1_2 z0))
    (broadcastInDim S512x3x256x256 ![0, 1, 2, 3] bcast_S512x3x1x256_S512x3x256x256_0_1_2_3 (broadcastInDim S512x3x1x256 ![0, 1, 3] bcast_S512x3x256_S512x3x1x256_0_1_3 z0))

/-- The squared distances. -/
def dists : FVec F S512x256x256 .f32 :=
  Host.reduceAdd (mulf (gaps z0) (gaps z0)) (constant S_ .f32 0x00000000#32) reducesTo_S512x3x256x256_S512x256x256_d1 h_S_

/-- Whether two points are one. -/
def same : IVec S512x256x256x256 1 :=
  broadcastInDim S512x256x256x256 ![0, 1, 2, 3] bcast_S1x1x256x256_S512x256x256x256_0_1_2_3
    (broadcastInDim S1x1x256x256 ![2, 3] bcast_S256x256_S1x1x256x256_2_3
      (cmpi .eq (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0)))))

/-- Whether two points lie at different distances from a third. -/
def differ (y : FVec F S512x256x256 .f32) : IVec S512x256x256x256 1 :=
  cmpf .une (broadcastInDim S512x256x256x256 ![0, 1, 2, 3] bcast_S512x256x256x1_S512x256x256x256_0_1_2_3 (broadcastInDim S512x256x256x1 ![0, 1, 2] bcast_S512x256x256_S512x256x256x1_0_1_2 y))
    (broadcastInDim S512x256x256x256 ![0, 1, 2, 3] bcast_S512x256x1x256_S512x256x256x256_0_1_2_3 (broadcastInDim S512x256x1x256 ![0, 1, 3] bcast_S512x256x256_S512x256x1x256_0_1_3 y))

theorem third_eq : (fn (F := F) z0 z1 z2 z3 z4 z5 z6).2.2
    = Host.reduce IntOp.andi (ori (differ (dists z0)) same) (constantI S_ 1 1#1) reducesTo_S512x256x256x256_S512x256_d2_3 h_S_ := by
  unfold fn fn_part1 differ dists same gaps
  with_reducible rfl

theorem differ_at (y : FVec F S512x256x256 .f32) (b : Fin 512) (i j k : Fin 256) :
    differ y (ix4 b i j k) = FloatOps.cmpf .une (y (ix3 b i j)) (y (ix3 b i k)) := by
  pointwise [differ]

theorem same_at (b : Fin 512) (i j k : Fin 256) :
    same (ix4 b i j k) = IntOp.cmpi .eq (BitVec.ofNat 32 j.val) (BitVec.ofNat 32 k.val) := by
  pointwise [same]

theorem gaps_at (b : Fin 512) (d : Fin 3) (i j : Fin 256) : gaps z0 (ix4 b d i j) = FloatOps.subf (z0 (ix3 b d i)) (z0 (ix3 b d j)) := by
  pointwise [gaps]

end Terms

theorem dists_at (b : Fin 512) (i j : Fin 256) : dists x0 (ix3 b i j) = dist x0 b i j := by
  unfold dists
  pointwise
  simp only [gaps_at]
  rfl

theorem drop_at (b : Fin 512) (i j k : Fin 256) :
    (Facts.reducesTo_S512x256x256x256_S512x256_d2_3).drop (ix4 b i j k) = ix2 b i := by
  funext a
  match a with
  | ⟨0, _⟩ => rfl
  | ⟨1, _⟩ => rfl

theorem real_of_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have h' : BitVec.ofBool (decide (max x (-x) < Ideal.ofBits .f32 2139095040#32)) = 1#1 := h
  rw [Num.pos_inf] at h'
  induction x with
  | bot => simp at h'
  | top => simp at h'
  | coe r => exact ⟨r, rfl⟩

theorem word_ne : ∀ j k : Fin 256, j ≠ k → IntOp.cmpi CmpIPredicate.eq (BitVec.ofNat 32 j.val) (BitVec.ofNat 32 k.val) = 0#1 := by
  decide +kernel

theorem ne_of_une (a b : EReal) (h : IntOp.ori (FloatOps.cmpf (F := Ideal) (φ := .f32) .une a b) 0#1 = 1#1) : a ≠ b := by
  intro e
  have h' : IntOp.ori (BitVec.ofBool (decide (a ≠ b))) 0#1 = 1#1 := h
  rw [decide_eq_false (by simpa using e)] at h'
  exact absurd h' (by decide)

/-- The precondition, in the reader's words. -/
theorem tame (h1 : (fn (F := Ideal) x0 x1 x2 x3 x4 x5 x6).1 = fun _ => 1#1) (h2 : (fn (F := Ideal) x0 x1 x2 x3 x4 x5 x6).2.1 = fun _ => 1#1)
    (h3 : (fn (F := Ideal) x0 x1 x2 x3 x4 x5 x6).2.2 = fun _ => 1#1) :
    (∀ b d n, ∃ r : ℝ, x0 (ix3 b d n) = (r : EReal)) ∧ (∀ d c, ∃ r : ℝ, x1 (ix2 d c) = (r : EReal))
      ∧ ∀ b i j k, j ≠ k → dist x0 b i j ≠ dist x0 b i k := by
  refine ⟨fun b d n => real_of_lt _ ((first_at x0 x1 x2 x3 x4 x5 x6 b d n).symm.trans (congrFun h1 _)),
    fun d c => real_of_lt _ ((second_at x0 x1 x2 x3 x4 x5 x6 d c).symm.trans (congrFun h2 _)), fun b i j k hjk => ?_⟩
  have hy := third_eq x0 x1 x2 x3 x4 x5 x6
  have h := Host.reduce_andi_eq_one (ori (differ (dists x0)) same) _ _ _ _ ((congrFun hy (ix2 b i)).symm.trans (congrFun h3 _)) (ix4 b i j k) (drop_at b i j k)
  have h' : IntOp.ori (differ (dists x0) (ix4 b i j k)) (same (ix4 b i j k)) = 1#1 := h
  rw [differ_at, same_at, dists_at, dists_at, word_ne j k hjk] at h'
  exact ne_of_une _ _ h'

end Cert.Pre_tame
end
-- ==== Proof.Result.lean ====
module

public import proofs.«01_k».proof.Proof.Block
public import proofs.«01_k».proof.Proof.Host
public import proofs.«01_k».proof.Proof.Windows
public import proofs.«01_k».proof.Proof.Tame
public import proofs.«01_k».proof.Defs
public import proofs.«01_k».proof.Proof.Gen.ReferenceIdeal.Run

/-! The kernel's result array and the reference's are the same. -/

@[expose] public section

set_option maxRecDepth 16384

noncomputable section

namespace Cert.Agree

open Idealize.ShloMosaic Idealize.ShloMosaic.TcCoe Idealize.SL.Sem
open Cert.KernelIdeal Cert.KernelIdeal.Gen Cert.KernelIdeal.Block Cert.KernelIdeal.Tail Cert.KernelIdeal.Launch

/-- The reference's result at an index. -/
theorem ref_at (z0 : FVec Ideal Cert.ReferenceIdeal.S512x3x256 .f32) (z1 : FVec Ideal Cert.ReferenceIdeal.S3x64 .f32) (z2 : FVec Ideal Cert.ReferenceIdeal.S64 .f32)
    (z3 : FVec Ideal Cert.ReferenceIdeal.S64x128 .f32) (z4 : FVec Ideal Cert.ReferenceIdeal.S128 .f32) (z5 : FVec Ideal Cert.ReferenceIdeal.S128x1 .f32)
    (z6 : FVec Ideal Cert.ReferenceIdeal.S1 .f32) (i : Fin 16) (r : Fin 3) (p : Fin 32) (b : Fin 512) (hb : b.val = 32 * i.val + p.val) :
    Cert.ReferenceIdeal.Read.val_main_v262 (F := Ideal) z0 z1 z2 z3 z4 z5 z6 (ix3 i r p)
      = Cert.ReferenceIdeal.Read.val_main_v260 (F := Ideal) z0 z1 z2 z3 z4 z5 z6 (ix2 b r) := by
  have h : Cert.ReferenceIdeal.Read.idx_main_v261 (Cert.ReferenceIdeal.Read.idx_main_v262 (ix3 i r p)) = ix2 b r := by
    funext a
    match a with
    | ⟨0, _⟩ =>
      refine Fin.ext ?_
      show ((i.val * 32 + p.val) * 3 + r.val) / 3 = b.val
      omega
    | ⟨1, _⟩ =>
      refine Fin.ext ?_
      show ((i.val * 32 + p.val) * 3 + r.val) % 3 = r.val
      omega
  rw [Cert.ReferenceIdeal.Read.val_main_v262_apply, Cert.ReferenceIdeal.Read.val_main_v261_apply, h]

theorem dist_real (z0 : FVec Ideal Cert.Pre_tame.S512x3x256 .f32) (b : Fin 512) (P : Fin 3 → Fin 256 → ℝ)
    (h : ∀ d n, z0 (ix3 b d n) = (P d n : EReal)) (i j : Fin 256) : Cert.Pre_tame.dist z0 b i j = (gap P i j : EReal) := by
  unfold Cert.Pre_tame.dist gap
  simp only [h, Fin.sum_univ_three]
  simp only [← EReal.coe_mul, ← EReal.coe_add, ← EReal.coe_sub]
  congr 1
  ring

variable (m : (ℓ : Loc nD τ sig) → Buf (Elt Ideal) ℓ) (c : Dev nD)

/-- The reference's result on the kernel's arguments. -/
def want : S16x3x32.Idx → EReal :=
  Cert.ReferenceIdeal.Read.val_main_v262 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- What a point of the grid stores. -/
theorem stored_at (hm : Cert.Pre_KernelIdeal_tame m) (t : Fin cfg0.N) (i : Fin 16) (hi : i.val = t.val) (r : Fin 3) (p : Fin 32) :
    (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) : S1x3x32.Idx → EReal) (ix3 0 r p)
      = want m c (ix3 i r p) := by
  obtain ⟨hP, hw, hd⟩ := Cert.Pre_tame.tame (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (hm c).1 (hm c).2.1 (hm c).2.2
  have hlt : 32 * i.val + p.val < 512 := by omega
  have hb : (⟨32 * i.val + p.val, hlt⟩ : Fin 512).val = 32 * i.val + p.val := rfl
  generalize (⟨32 * i.val + p.val, hlt⟩ : Fin 512) = b at hb
  choose P hP using hP b
  choose w hw using hw
  have hD : Distinct P := by
    intro n j k hjk e
    refine hd b n j k hjk ?_
    rw [dist_real _ b P hP, dist_real _ b P hP, e]
  unfold want
  rw [ref_at _ _ _ _ _ _ _ i r p b hb]
  refine block_normal c (grid0.coords t) _ _ _ _ _ _ _ _ _ _ _ _ _ _ _ _ _ _ _ _ _ _ _ _ _ _ _ _ _ _ _ _ _ _ _ _ _ _ _ _ b p P w hD hP hw ?_ ?_ ?_ ?_ ?_ ?_ ?_ ?_ ?_ r
  · intro d n
    have hJ : 256 * b.val + n.val < 131072 := by omega
    refine (in0 m c t d (col p n) ⟨256 * b.val + n.val, hJ⟩ ?_).trans ((points_at m c d b n _ rfl).trans (hP d n))
    show 256 * b.val + n.val = 8192 * t.val + (256 * p.val + n.val)
    omega
  · intro l d
    exact (in1 m c t p l d b (by omega)).trans ((clouds_at m c b l d).trans (hP d l))
  · intro J q
    exact (in2 m c t J q).trans (member_at m c J q)
  · intro a d
    exact (in3 m c t a d).trans ((first_at m c a d).trans (hw d a))
  · intro a
    exact (in4 m c t a).trans (first_bias_at m c a)
  · intro a j
    exact (in5 m c t j a).trans (second_at m c j a)
  · intro j
    exact (in6 m c t j).trans (second_bias_at m c j)
  · intro j
    exact in7 m c t j
  · exact (in8 m c t).trans (last_bias_at m c)

theorem place_out (t : Fin cfg0.N) (i : Fin 16) (hi : i.val = t.val) (r : Fin 3) (p : Fin 32) :
    ((cfg0.win 9).blk t).view.emb (ix3 0 r p : S1x3x32.Idx) = (ix3 i r p : S16x3x32.Idx) := by
  have i0 := (place9 t).1
  have i1 := (place9 t).2.1
  have i2 := (place9 t).2.2
  blk_ext [i0, i1, i2, hi]

/-- The kernel's result array is the reference's. -/
theorem array_eq (hm : Cert.Pre_KernelIdeal_tame m) : ((dats m 0 c).arrAt 9 cfg0.N : S16x3x32.Idx → EReal) = want m c := by
  funext j
  rw [eq_ix3 j]
  generalize j 0 = i
  generalize j 1 = r
  generalize j 2 = p
  have hN : grid0.N = 16 := by decide
  have hi : i.val < grid0.N := by rw [hN]; exact i.isLt
  have h := congrFun ((Value.blocks9 m c ⟨i.val, hi⟩ (flush0_9 ⟨i.val, hi⟩)).trans (Value.flushed9_A m c ⟨i.val, hi⟩)) (ix3 0 r p : S1x3x32.Idx)
  have e : ((cfg0.win 9).blk ⟨i.val, hi⟩).view.read (Elt Ideal) ((dats m 0 c).arrAt 9 cfg0.N) (ix3 0 r p : S1x3x32.Idx)
      = ((dats m 0 c).arrAt 9 cfg0.N : S16x3x32.Idx → EReal) (ix3 i r p) :=
    congrArg ((dats m 0 c).arrAt 9 cfg0.N : S16x3x32.Idx → EReal) (place_out ⟨i.val, hi⟩ i rfl r p)
  refine e.symm.trans (h.trans ?_)
  refine Eq.trans ?_ (stored_at m c hm ⟨i.val, hi⟩ i rfl r p)
  unfold Pipeline.Window.cut
  refine congrArg _ ?_
  rfl

end Cert.Agree
end
-- ==== Proof.lean ====
/- The proof of the claims of `proof/Defs.lean`: the two forms of the kernel and the reference run and keep their
   arguments, and where no two points of a cloud are equally far from a third, and the points and the first
   layer's weights are real numbers, the idealized kernel's result is the reference's.
   `Proof/Result.lean` says how the results meet: both are `Spec.normal` of the cloud and of its weights. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference runs, keeps its arguments, and leaves every counter at zero. -/
theorem reference_runs : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- Equal arguments give equal results of the reference. -/
theorem ref_congr {z0 y0 : FVec Ideal Cert.ReferenceIdeal.S512x3x256 .f32} {z1 y1 : FVec Ideal Cert.ReferenceIdeal.S3x64 .f32} {z2 y2 : FVec Ideal Cert.ReferenceIdeal.S64 .f32}
    {z3 y3 : FVec Ideal Cert.ReferenceIdeal.S64x128 .f32} {z4 y4 : FVec Ideal Cert.ReferenceIdeal.S128 .f32} {z5 y5 : FVec Ideal Cert.ReferenceIdeal.S128x1 .f32}
    {z6 y6 : FVec Ideal Cert.ReferenceIdeal.S1 .f32} (h0 : z0 = y0) (h1 : z1 = y1) (h2 : z2 = y2) (h3 : z3 = y3) (h4 : z4 = y4) (h5 : z5 = y5) (h6 : z6 = y6) :
    Cert.ReferenceIdeal.Read.val_main_v262 (F := Ideal) z0 z1 z2 z3 z4 z5 z6 = Cert.ReferenceIdeal.Read.val_main_v262 (F := Ideal) y0 y1 y2 y3 y4 y5 y6 := by
  rw [h0, h1, h2, h3, h4, h5, h6]

/-- The idealized kernel and the reference give the same result. -/
theorem same : Cert.algebraic_KernelIdeal_ReferenceIdeal_pre_tame (hKernelIdeal := Cert.KernelIdeal.Gen.facts) (hReferenceIdeal := Cert.ReferenceIdeal.Gen.facts)
    (hPre_tame := Cert.Pre_tame.facts) := by
  intro m g m' g' hm hargs
  refine ⟨fun c => Cert.Agree.want m c, (θ_run Cert.KernelIdeal.defs _ _).mono (fun r h c => ?_) (Cert.KernelIdeal.Value.run_blocks (F := Ideal) m g),
    (θ_run Cert.ReferenceIdeal.defs _ _).mono (fun r h c => ?_) (Cert.ReferenceIdeal.Value.run (F := Ideal) m' g')⟩
  · exact ⟨(h c).1.trans (Cert.Agree.array_eq m c hm), (h c).2⟩
  · obtain ⟨h0, h1, h2, h3, h4, h5, h6⟩ := hargs c
    refine ⟨(h c).1.trans ((Cert.ReferenceIdeal.Read.val_main_v262_eq (StableHlo.launchContents m' c)).trans ?_), (h c).2⟩
    exact ref_congr h0 h1 h2 h3 h4 h5 h6

theorem claim : Cert.Claim :=
  ⟨Cert.Kernel.Gen.facts, Cert.KernelIdeal.Gen.facts, Cert.ReferenceIdeal.Gen.facts, Cert.Pre_tame.facts,
    fun m ρ _ => Cert.Kernel.Gen.frame m ρ, fun m ρ _ => Cert.KernelIdeal.Gen.frame m ρ, fun m ρ _ => Cert.KernelIdeal.Gen.frame m ρ,
    reference_runs, fun m ρ _ => reference_runs m ρ trivial, trivial, same⟩

end Cert.Proof

end
